-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_representable [hPre_representable : Cert.Pre_representable.Facts] (m : (ℓ : Loc Cert.KernelIdeal.nD Cert.KernelIdeal.τ Cert.KernelIdeal.sig) → Buf (Elt Ideal) ℓ) : Prop :=
  ∀ c : Dev Cert.KernelIdeal.nD,
    (Cert.Pre_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_representable [hPre_representable : Cert.Pre_representable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_representable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_representable [hKernelIdeal : Cert.KernelIdeal.Facts] [hPre_representable : Cert.Pre_representable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_representable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_representable [hReferenceIdeal : Cert.ReferenceIdeal.Facts] [hPre_representable : Cert.Pre_representable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_representable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pair.BufferStatement Cert.KernelIdeal.S6208x2x128 Cert.KernelIdeal.S6208x1x128
  ∧ IdealRules.bf16_pair.Statement Cert.KernelIdeal.S1x16x128 Cert.KernelIdeal.S1x8x128
  ∧ IdealRules.bf16_pair.Statement Cert.KernelIdeal.S16x128 Cert.KernelIdeal.S8x128
  ∧ IdealRules.bf16_pair.Statement Cert.KernelIdeal.S8x2x128 Cert.KernelIdeal.S8x1x128
  ∧ IdealRules.bf16_pair.Statement Cert.KernelIdeal.S384x2x128 Cert.KernelIdeal.S384x1x128
  ∧ IdealRules.bf16_pair.Statement Cert.KernelIdeal.S768x128 Cert.KernelIdeal.S384x128

def algebraic_KernelIdeal_ReferenceIdeal_pre_representable [hKernelIdeal : Cert.KernelIdeal.Facts] [hReferenceIdeal : Cert.ReferenceIdeal.Facts] [hPre_representable : Cert.Pre_representable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_representable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_representable : Cert.Pre_representable.Facts),
    quiescent_Kernel (hKernel := hKernel)
    ∧ quiescent_KernelIdeal (hKernelIdeal := hKernelIdeal)
    ∧ quiescent_KernelIdeal_pre_representable (hKernelIdeal := hKernelIdeal) (hPre_representable := hPre_representable)
    ∧ quiescent_ReferenceIdeal (hReferenceIdeal := hReferenceIdeal)
    ∧ quiescent_ReferenceIdeal_pre_representable (hReferenceIdeal := hReferenceIdeal) (hPre_representable := hPre_representable)
    ∧ preserves_Kernel_KernelIdeal
    ∧ algebraic_KernelIdeal_ReferenceIdeal_pre_representable (hKernelIdeal := hKernelIdeal) (hReferenceIdeal := hReferenceIdeal) (hPre_representable := hPre_representable)
-- ==== Pre_representable.lean ====
abbrev S1280x6912 : Shape := ⟨2, ![1280, 6912]⟩
abbrev S6912x8x4096 : Shape := ⟨3, ![6912, 8, 4096]⟩
abbrev S_ : Shape := ⟨0, ![]⟩

class Facts : Prop where
  bitsLt_bf16_f32 : FTy.bits .bf16 < FTy.bits .f32
  bcast_S_S6912x8x4096 : S_.BroadcastsInDim S6912x8x4096 (![] : Fin 0 → Fin S6912x8x4096.rank)
  reducesTo_S6912x8x4096_S_d0_1_2 : S6912x8x4096.ReducesTo [0, 1, 2] S_
  h_S_ : 0 < S_.numel

variable [Facts]

def fn {F : FTy → Type} [FloatOps F] (main_arg0 : FVec F S1280x6912 .bf16) (main_arg1 : FVec F S6912x8x4096 .bf16) : IVec S_ 1 :=
  let main_v0 : FVec F S6912x8x4096 .f32 := (extf .f32 · bitsLt_bf16_f32) main_arg1
  let main_v1 : FVec F S6912x8x4096 .f32 := Host.absf main_v0
  let main_cst : FVec F S_ .f32 := constant S_ .f32 0x7F7F0000#32
  let main_v2 : FVec F S6912x8x4096 .f32 := broadcastInDim S6912x8x4096 ![] bcast_S_S6912x8x4096 main_cst
  let main_v3 : IVec S6912x8x4096 1 := cmpf .ole main_v1 main_v2
  let main_cst_0 : FVec F S_ .f32 := constant S_ .f32 0x7F800000#32
  let main_v4 : FVec F S6912x8x4096 .f32 := broadcastInDim S6912x8x4096 ![] bcast_S_S6912x8x4096 main_cst_0
  let main_v5 : IVec S6912x8x4096 1 := cmpf .oeq main_v1 main_v4
  let main_v6 : IVec S6912x8x4096 1 := ori main_v3 main_v5
  let main_c : IVec S_ 1 := constantI S_ 1 1#1
  let main_v7 : IVec S_ 1 := (fun x v => Host.reduce IntOp.andi x v reducesTo_S6912x8x4096_S_d0_1_2 h_S_) main_v6 main_c
  main_v7
-- ==== Kernel.lean ====
abbrev S1280x6912 : Shape := ⟨2, ![1280, 6912]⟩
abbrev S6912x8x4096 : Shape := ⟨3, ![6912, 8, 4096]⟩
abbrev S6912x8x32x128 : Shape := ⟨4, ![6912, 8, 32, 128]⟩
abbrev S6912x32x8x128 : Shape := ⟨4, ![6912, 32, 8, 128]⟩
abbrev S6912x256x128 : Shape := ⟨3, ![6912, 256, 128]⟩
abbrev S8x4096x1280 : Shape := ⟨3, ![8, 4096, 1280]⟩
abbrev S54x8x4096 : Shape := ⟨3, ![54, 8, 4096]⟩
abbrev S768x16x128 : Shape := ⟨3, ![768, 16, 128]⟩
abbrev S8x256x1280 : Shape := ⟨3, ![8, 256, 1280]⟩
abbrev S768x2x8x128 : Shape := ⟨4, ![768, 2, 8, 128]⟩
abbrev S6x8x256 : Shape := ⟨3, ![6, 8, 256]⟩
abbrev S8x1280x256 : Shape := ⟨3, ![8, 1280, 256]⟩
abbrev S6208x128 : Shape := ⟨2, ![6208, 128]⟩
abbrev S768x8x128 : Shape := ⟨3, ![768, 8, 128]⟩
abbrev S1x8x128 : Shape := ⟨3, ![1, 8, 128]⟩
abbrev S1x16x128 : Shape := ⟨3, ![1, 16, 128]⟩
abbrev S8x128 : Shape := ⟨2, ![8, 128]⟩
abbrev S16x128 : Shape := ⟨2, ![16, 128]⟩
abbrev S32x128 : Shape := ⟨2, ![32, 128]⟩
abbrev S2x2x8x128 : Shape := ⟨4, ![2, 2, 8, 128]⟩
abbrev S1280x768 : Shape := ⟨2, ![1280, 768]⟩
abbrev S384x128 : Shape := ⟨2, ![384, 128]⟩
abbrev S768x128 : Shape := ⟨2, ![768, 128]⟩
abbrev S768x256 : Shape := ⟨2, ![768, 256]⟩
abbrev S1280x256 : Shape := ⟨2, ![1280, 256]⟩
abbrev S1x1280x256 : Shape := ⟨3, ![1, 1280, 256]⟩
abbrev S256x1280 : Shape := ⟨2, ![256, 1280]⟩
abbrev S1x256x1280 : Shape := ⟨3, ![1, 256, 1280]⟩

abbrev nBuf : Space → Nat
  | .hbm => 8
  | .vmem => 11
  | .smem => 0
  | _ => 0

abbrev bufTy : (tb : Table) → Fin (tcTables nBuf tb) → BufTy
  | .hbm, ⟨0, _⟩ => ⟨S1280x6912, .bf16⟩
  | .hbm, ⟨1, _⟩ => ⟨S6912x8x4096, .bf16⟩
  | .hbm, ⟨2, _⟩ => ⟨S6912x8x32x128, .bf16⟩
  | .hbm, ⟨3, _⟩ => ⟨S6912x32x8x128, .bf16⟩
  | .hbm, ⟨4, _⟩ => ⟨S6912x256x128, .bf16⟩
  | .hbm, ⟨5, _⟩ => ⟨S8x4096x1280, .bf16⟩
  | .hbm, ⟨6, _⟩ => ⟨S6912x32x8x128, .fp8e4m3⟩
  | .hbm, ⟨7, _⟩ => ⟨S54x8x4096, .f32⟩
  | .local _ .vmem, ⟨0, _⟩ => ⟨S1280x6912, .bf16⟩
  | .local _ .vmem, ⟨1, _⟩ => ⟨S768x16x128, .bf16⟩
  | .local _ .vmem, ⟨2, _⟩ => ⟨S768x16x128, .bf16⟩
  | .local _ .vmem, ⟨3, _⟩ => ⟨S8x256x1280, .bf16⟩
  | .local _ .vmem, ⟨4, _⟩ => ⟨S8x256x1280, .bf16⟩
  | .local _ .vmem, ⟨5, _⟩ => ⟨S768x2x8x128, .fp8e4m3⟩
  | .local _ .vmem, ⟨6, _⟩ => ⟨S768x2x8x128, .fp8e4m3⟩
  | .local _ .vmem, ⟨7, _⟩ => ⟨S6x8x256, .f32⟩
  | .local _ .vmem, ⟨8, _⟩ => ⟨S6x8x256, .f32⟩
  | .local _ .vmem, ⟨9, _⟩ => ⟨S8x1280x256, .f32⟩
  | .local _ .vmem, ⟨10, _⟩ => ⟨S6208x128, .i32⟩
  | _, _ => ⟨S1280x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨2, ![16, 9], ![false, false]⟩

@[reducible] def k0_t1_loop : Scf.Loop 32 :=
  let c0_i32 : BitVec 32 := 0#32
  let c6_i32 : BitVec 32 := 6#32
  let v0 : BitVec 32 := Scalar.addi c0_i32 c6_i32
  let c1_i32 : BitVec 32 := 1#32
  ⟨c0_i32, v0, c1_i32⟩
def k0_off1 (k0_t1 : Fin k0_t1_loop.trips) : Fin 3 → Nat :=
  let c0_i32_76 : BitVec 32 := 0#32
  let c0_i32 : BitVec 32 := 0#32
  let c1_i32 : BitVec 32 := 1#32
  let arg9 : BitVec 32 := Scf.iv c0_i32 c1_i32 k0_t1
  let c1_i32_75 : BitVec 32 := 1#32
  let v120 : BitVec 32 := Scalar.muli arg9 c1_i32_75
  let v121 : BitVec 32 := Scalar.addi c0_i32_76 v120
  let c128_i32 : BitVec 32 := 128#32
  let v122 : BitVec 32 := Scalar.muli v121 c128_i32
  let v124 : Index := Scalar.indexCast v122
  let c0_78 : Index := 0#32
  ![v124.toNat, 0, 0]
@[reducible] def k0_t2_loop : Scf.Loop 32 :=
  let c1_i32_79 : BitVec 32 := 1#32
  let c127_i32 : BitVec 32 := 127#32
  let v129 : BitVec 32 := Scalar.addi c1_i32_79 c127_i32
  let c1_i32_80 : BitVec 32 := 1#32
  ⟨c1_i32_79, v129, c1_i32_80⟩
def k0_off2 (k0_t1 : Fin k0_t1_loop.trips) (k0_t2 : Fin k0_t2_loop.trips) : Fin 3 → Nat :=
  let c0_i32_76 : BitVec 32 := 0#32
  let c0_i32 : BitVec 32 := 0#32
  let c1_i32 : BitVec 32 := 1#32
  let arg9 : BitVec 32 := Scf.iv c0_i32 c1_i32 k0_t1
  let c1_i32_75 : BitVec 32 := 1#32
  let v120 : BitVec 32 := Scalar.muli arg9 c1_i32_75
  let v121 : BitVec 32 := Scalar.addi c0_i32_76 v120
  let c128_i32 : BitVec 32 := 128#32
  let v122 : BitVec 32 := Scalar.muli v121 c128_i32
  let c1_i32_79 : BitVec 32 := 1#32
  let c1_i32_80 : BitVec 32 := 1#32
  let arg10 : BitVec 32 := Scf.iv c1_i32_79 c1_i32_80 k0_t2
  let v237 : BitVec 32 := Scalar.addi v122 arg10
  let v239 : Index := Scalar.indexCast v237
  let c0_114 : Index := 0#32
  ![v239.toNat, 0, 0]
def k0_off3 (k0_t1 : Fin k0_t1_loop.trips) : Fin 3 → Nat :=
  let c0_i32_76 : BitVec 32 := 0#32
  let c0_i32 : BitVec 32 := 0#32
  let c1_i32 : BitVec 32 := 1#32
  let arg9 : BitVec 32 := Scf.iv c0_i32 c1_i32 k0_t1
  let c1_i32_75 : BitVec 32 := 1#32
  let v120 : BitVec 32 := Scalar.muli arg9 c1_i32_75
  let v121 : BitVec 32 := Scalar.addi c0_i32_76 v120
  let v225 : Index := Scalar.indexCast v121
  let c0_106 : Index := 0#32
  let c0_107 : Index := 0#32
  ![v225.toNat, 0, 0]
def k0_off4 (k0_t1 : Fin k0_t1_loop.trips) : Fin 3 → Nat :=
  let c0_i32_76 : BitVec 32 := 0#32
  let c0_i32 : BitVec 32 := 0#32
  let c1_i32 : BitVec 32 := 1#32
  let arg9 : BitVec 32 := Scf.iv c0_i32 c1_i32 k0_t1
  let c1_i32_75 : BitVec 32 := 1#32
  let v120 : BitVec 32 := Scalar.muli arg9 c1_i32_75
  let v121 : BitVec 32 := Scalar.addi c0_i32_76 v120
  let v230 : Index := Scalar.indexCast v121
  let c0_108 : Index := 0#32
  let c128 : Index := 128#32
  ![v230.toNat, 0, 128]
@[reducible] def k0_t3_loop : Scf.Loop 32 :=
  let c0_i32_109 : BitVec 32 := 0#32
  let c64_i32_110 : BitVec 32 := 64#32
  let v236 : BitVec 32 := Scalar.addi c0_i32_109 c64_i32_110
  let c1_i32_111 : BitVec 32 := 1#32
  ⟨c0_i32_109, v236, c1_i32_111⟩
def k0_off5 (k0_t1 : Fin k0_t1_loop.trips) (k0_t3 : Fin k0_t3_loop.trips) (c0_i32_116 : BitVec 32) : Fin 3 → Nat :=
  let c0_i32_76 : BitVec 32 := 0#32
  let c0_i32 : BitVec 32 := 0#32
  let c1_i32 : BitVec 32 := 1#32
  let arg9 : BitVec 32 := Scf.iv c0_i32 c1_i32 k0_t1
  let c1_i32_75 : BitVec 32 := 1#32
  let v120 : BitVec 32 := Scalar.muli arg9 c1_i32_75
  let v121 : BitVec 32 := Scalar.addi c0_i32_76 v120
  let c128_i32 : BitVec 32 := 128#32
  let v122 : BitVec 32 := Scalar.muli v121 c128_i32
  let c2_i32_115 : BitVec 32 := 2#32
  let c0_i32_114 : BitVec 32 := 0#32
  let c0_i32_109 : BitVec 32 := 0#32
  let c1_i32_111 : BitVec 32 := 1#32
  let arg10 : BitVec 32 := Scf.iv c0_i32_109 c1_i32_111 k0_t3
  let c1_i32_113 : BitVec 32 := 1#32
  let v237 : BitVec 32 := Scalar.muli arg10 c1_i32_113
  let v238 : BitVec 32 := Scalar.addi c0_i32_114 v237
  let v239 : BitVec 32 := Scalar.muli c2_i32_115 v238
  let v240 : BitVec 32 := Scalar.addi v122 v239
  let v241 : BitVec 32 := Scalar.addi v240 c0_i32_116
  let v243 : Index := Scalar.indexCast v241
  let c0_118 : Index := 0#32
  ![v243.toNat, 0, 0]
def k0_off6 (k0_t1 : Fin k0_t1_loop.trips) (k0_t3 : Fin k0_t3_loop.trips) : Fin 4 → Nat :=
  let c0_i32_76 : BitVec 32 := 0#32
  let c0_i32 : BitVec 32 := 0#32
  let c1_i32 : BitVec 32 := 1#32
  let arg9 : BitVec 32 := Scf.iv c0_i32 c1_i32 k0_t1
  let c1_i32_75 : BitVec 32 := 1#32
  let v120 : BitVec 32 := Scalar.muli arg9 c1_i32_75
  let v121 : BitVec 32 := Scalar.addi c0_i32_76 v120
  let c128_i32 : BitVec 32 := 128#32
  let v122 : BitVec 32 := Scalar.muli v121 c128_i32
  let c2_i32_115 : BitVec 32 := 2#32
  let c0_i32_114 : BitVec 32 := 0#32
  let c0_i32_109 : BitVec 32 := 0#32
  let c1_i32_111 : BitVec 32 := 1#32
  let arg10 : BitVec 32 := Scf.iv c0_i32_109 c1_i32_111 k0_t3
  let c1_i32_113 : BitVec 32 := 1#32
  let v237 : BitVec 32 := Scalar.muli arg10 c1_i32_113
  let v238 : BitVec 32 := Scalar.addi c0_i32_114 v237
  let v239 : BitVec 32 := Scalar.muli c2_i32_115 v238
  let v271 : BitVec 32 := Scalar.addi v122 v239
  let v272 : Index := Scalar.indexCast v271
  let c0_126 : Index := 0#32
  let c0_127 : Index := 0#32
  let c0_128 : Index := 0#32
  ![v272.toNat, 0, 0, 0]
def k0_off7 (k0_t1 : Fin k0_t1_loop.trips) (k0_t3 : Fin k0_t3_loop.trips) : Fin 2 → Nat :=
  let c0_i32_76 : BitVec 32 := 0#32
  let c0_i32 : BitVec 32 := 0#32
  let c1_i32 : BitVec 32 := 1#32
  let arg9 : BitVec 32 := Scf.iv c0_i32 c1_i32 k0_t1
  let c1_i32_75 : BitVec 32 := 1#32
  let v120 : BitVec 32 := Scalar.muli arg9 c1_i32_75
  let v121 : BitVec 32 := Scalar.addi c0_i32_76 v120
  let c64_i32_131 : BitVec 32 := 64#32
  let v291 : BitVec 32 := Scalar.muli v121 c64_i32_131
  let c0_i32_114 : BitVec 32 := 0#32
  let c0_i32_109 : BitVec 32 := 0#32
  let c1_i32_111 : BitVec 32 := 1#32
  let arg10 : BitVec 32 := Scf.iv c0_i32_109 c1_i32_111 k0_t3
  let c1_i32_113 : BitVec 32 := 1#32
  let v237 : BitVec 32 := Scalar.muli arg10 c1_i32_113
  let v238 : BitVec 32 := Scalar.addi c0_i32_114 v237
  let v292 : BitVec 32 := Scalar.addi v291 v238
  let v293 : Index := Scalar.indexCast v292
  let c0_132 : Index := 0#32
  ![v293.toNat, 0]
def k0_off8 (k0_t1 : Fin k0_t1_loop.trips) (k0_t3 : Fin k0_t3_loop.trips) : Fin 2 → Nat :=
  let c3104_i32 : BitVec 32 := 3104#32
  let c0_i32_76 : BitVec 32 := 0#32
  let c0_i32 : BitVec 32 := 0#32
  let c1_i32 : BitVec 32 := 1#32
  let arg9 : BitVec 32 := Scf.iv c0_i32 c1_i32 k0_t1
  let c1_i32_75 : BitVec 32 := 1#32
  let v120 : BitVec 32 := Scalar.muli arg9 c1_i32_75
  let v121 : BitVec 32 := Scalar.addi c0_i32_76 v120
  let c64_i32_131 : BitVec 32 := 64#32
  let v291 : BitVec 32 := Scalar.muli v121 c64_i32_131
  let c0_i32_114 : BitVec 32 := 0#32
  let c0_i32_109 : BitVec 32 := 0#32
  let c1_i32_111 : BitVec 32 := 1#32
  let arg10 : BitVec 32 := Scf.iv c0_i32_109 c1_i32_111 k0_t3
  let c1_i32_113 : BitVec 32 := 1#32
  let v237 : BitVec 32 := Scalar.muli arg10 c1_i32_113
  let v238 : BitVec 32 := Scalar.addi c0_i32_114 v237
  let v292 : BitVec 32 := Scalar.addi v291 v238
  let v297 : BitVec 32 := Scalar.addi c3104_i32 v292
  let v298 : Index := Scalar.indexCast v297
  let c0_133 : Index := 0#32
  ![v298.toNat, 0]
def k0_mult1 (i : grid0.Coords) : BitVec 32 :=
  let arg1 : BitVec 32 := BitVec.ofNat 32 (i 1).val
  let c768_i32 : BitVec 32 := 768#32
  let v1 : BitVec 32 := Scalar.muli arg1 c768_i32
  v1
def k0_off9 (i : grid0.Coords) : Fin 2 → Nat :=
  let c0 : Index := 0#32
  let arg1 : BitVec 32 := BitVec.ofNat 32 (i 1).val
  let c768_i32 : BitVec 32 := 768#32
  let v1 : BitVec 32 := Scalar.muli arg1 c768_i32
  let v2 : BitVec 32 := v1
  let v3 : Index := Scalar.indexCast v2
  ![0, v3.toNat]
def k0_cond1 (i : grid0.Coords) : BitVec 1 :=
  let arg1 : BitVec 32 := BitVec.ofNat 32 (i 1).val
  let c8_i32 : BitVec 32 := 8#32
  let v117 : BitVec 1 := Scalar.cmpi .eq arg1 c8_i32
  let v118 : BitVec 32 := Scalar.extui v117
  let c0_i32_74 : BitVec 32 := 0#32
  let v119 : BitVec 1 := Scalar.cmpi .ne v118 c0_i32_74
  v119

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 1 → Memref sig .tc .vmem S1280x6912 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S768x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x2x8x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S6x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
abbrev S1280x6912 : Shape := ⟨2, ![1280, 6912]⟩
abbrev S6912x8x4096 : Shape := ⟨3, ![6912, 8, 4096]⟩
abbrev S6912x8x32x128 : Shape := ⟨4, ![6912, 8, 32, 128]⟩
abbrev S6912x32x8x128 : Shape := ⟨4, ![6912, 32, 8, 128]⟩
abbrev S6912x256x128 : Shape := ⟨3, ![6912, 256, 128]⟩
abbrev S8x4096x1280 : Shape := ⟨3, ![8, 4096, 1280]⟩
abbrev S54x8x4096 : Shape := ⟨3, ![54, 8, 4096]⟩
abbrev S768x16x128 : Shape := ⟨3, ![768, 16, 128]⟩
abbrev S8x256x1280 : Shape := ⟨3, ![8, 256, 1280]⟩
abbrev S768x2x8x128 : Shape := ⟨4, ![768, 2, 8, 128]⟩
abbrev S6x8x256 : Shape := ⟨3, ![6, 8, 256]⟩
abbrev S8x1280x256 : Shape := ⟨3, ![8, 1280, 256]⟩
abbrev S6208x128 : Shape := ⟨2, ![6208, 128]⟩
abbrev S6208x2x128 : Shape := ⟨3, ![6208, 2, 128]⟩
abbrev S6208x1x128 : Shape := ⟨3, ![6208, 1, 128]⟩
abbrev S768x8x128 : Shape := ⟨3, ![768, 8, 128]⟩
abbrev S1x8x128 : Shape := ⟨3, ![1, 8, 128]⟩
abbrev S1x16x128 : Shape := ⟨3, ![1, 16, 128]⟩
abbrev S8x128 : Shape := ⟨2, ![8, 128]⟩
abbrev S16x128 : Shape := ⟨2, ![16, 128]⟩
abbrev S32x128 : Shape := ⟨2, ![32, 128]⟩
abbrev S2x2x8x128 : Shape := ⟨4, ![2, 2, 8, 128]⟩
abbrev S8x2x128 : Shape := ⟨3, ![8, 2, 128]⟩
abbrev S8x1x128 : Shape := ⟨3, ![8, 1, 128]⟩
abbrev S1280x768 : Shape := ⟨2, ![1280, 768]⟩
abbrev S384x128 : Shape := ⟨2, ![384, 128]⟩
abbrev S384x2x128 : Shape := ⟨3, ![384, 2, 128]⟩
abbrev S384x1x128 : Shape := ⟨3, ![384, 1, 128]⟩
abbrev S768x128 : Shape := ⟨2, ![768, 128]⟩
abbrev S768x256 : Shape := ⟨2, ![768, 256]⟩
abbrev S1280x256 : Shape := ⟨2, ![1280, 256]⟩
abbrev S1x1280x256 : Shape := ⟨3, ![1, 1280, 256]⟩
abbrev S256x1280 : Shape := ⟨2, ![256, 1280]⟩
abbrev S1x256x1280 : Shape := ⟨3, ![1, 256, 1280]⟩

abbrev nBuf : Space → Nat
  | .hbm => 8
  | .vmem => 11
  | .smem => 0
  | _ => 0

abbrev bufTy : (tb : Table) → Fin (tcTables nBuf tb) → BufTy
  | .hbm, ⟨0, _⟩ => ⟨S1280x6912, .bf16⟩
  | .hbm, ⟨1, _⟩ => ⟨S6912x8x4096, .bf16⟩
  | .hbm, ⟨2, _⟩ => ⟨S6912x8x32x128, .bf16⟩
  | .hbm, ⟨3, _⟩ => ⟨S6912x32x8x128, .bf16⟩
  | .hbm, ⟨4, _⟩ => ⟨S6912x256x128, .bf16⟩
  | .hbm, ⟨5, _⟩ => ⟨S8x4096x1280, .bf16⟩
  | .hbm, ⟨6, _⟩ => ⟨S6912x32x8x128, .fp8e4m3⟩
  | .hbm, ⟨7, _⟩ => ⟨S54x8x4096, .f32⟩
  | .local _ .vmem, ⟨0, _⟩ => ⟨S1280x6912, .bf16⟩
  | .local _ .vmem, ⟨1, _⟩ => ⟨S768x16x128, .bf16⟩
  | .local _ .vmem, ⟨2, _⟩ => ⟨S768x16x128, .bf16⟩
  | .local _ .vmem, ⟨3, _⟩ => ⟨S8x256x1280, .bf16⟩
  | .local _ .vmem, ⟨4, _⟩ => ⟨S8x256x1280, .bf16⟩
  | .local _ .vmem, ⟨5, _⟩ => ⟨S768x2x8x128, .fp8e4m3⟩
  | .local _ .vmem, ⟨6, _⟩ => ⟨S768x2x8x128, .fp8e4m3⟩
  | .local _ .vmem, ⟨7, _⟩ => ⟨S6x8x256, .f32⟩
  | .local _ .vmem, ⟨8, _⟩ => ⟨S6x8x256, .f32⟩
  | .local _ .vmem, ⟨9, _⟩ => ⟨S8x1280x256, .f32⟩
  | .local _ .vmem, ⟨10, _⟩ => ⟨S6208x2x128, .bf16⟩
  | _, _ => ⟨S1280x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 9], ![false, false]⟩

@[reducible] def k0_t1_loop : Scf.Loop 32 :=
  let c0_i32 : BitVec 32 := 0#32
  let c6_i32 : BitVec 32 := 6#32
  let v0 : BitVec 32 := Scalar.addi c0_i32 c6_i32
  let c1_i32 : BitVec 32 := 1#32
  ⟨c0_i32, v0, c1_i32⟩
def k0_off1 (k0_t1 : Fin k0_t1_loop.trips) : Fin 3 → Nat :=
  let c0_i32_76 : BitVec 32 := 0#32
  let c0_i32 : BitVec 32 := 0#32
  let c1_i32 : BitVec 32 := 1#32
  let arg9 : BitVec 32 := Scf.iv c0_i32 c1_i32 k0_t1
  let c1_i32_75 : BitVec 32 := 1#32
  let v120 : BitVec 32 := Scalar.muli arg9 c1_i32_75
  let v121 : BitVec 32 := Scalar.addi c0_i32_76 v120
  let c128_i32 : BitVec 32 := 128#32
  let v122 : BitVec 32 := Scalar.muli v121 c128_i32
  let v124 : Index := Scalar.indexCast v122
  let c0_78 : Index := 0#32
  ![v124.toNat, 0, 0]
@[reducible] def k0_t2_loop : Scf.Loop 32 :=
  let c1_i32_79 : BitVec 32 := 1#32
  let c127_i32 : BitVec 32 := 127#32
  let v129 : BitVec 32 := Scalar.addi c1_i32_79 c127_i32
  let c1_i32_80 : BitVec 32 := 1#32
  ⟨c1_i32_79, v129, c1_i32_80⟩
def k0_off2 (k0_t1 : Fin k0_t1_loop.trips) (k0_t2 : Fin k0_t2_loop.trips) : Fin 3 → Nat :=
  let c0_i32_76 : BitVec 32 := 0#32
  let c0_i32 : BitVec 32 := 0#32
  let c1_i32 : BitVec 32 := 1#32
  let arg9 : BitVec 32 := Scf.iv c0_i32 c1_i32 k0_t1
  let c1_i32_75 : BitVec 32 := 1#32
  let v120 : BitVec 32 := Scalar.muli arg9 c1_i32_75
  let v121 : BitVec 32 := Scalar.addi c0_i32_76 v120
  let c128_i32 : BitVec 32 := 128#32
  let v122 : BitVec 32 := Scalar.muli v121 c128_i32
  let c1_i32_79 : BitVec 32 := 1#32
  let c1_i32_80 : BitVec 32 := 1#32
  let arg10 : BitVec 32 := Scf.iv c1_i32_79 c1_i32_80 k0_t2
  let v237 : BitVec 32 := Scalar.addi v122 arg10
  let v239 : Index := Scalar.indexCast v237
  let c0_114 : Index := 0#32
  ![v239.toNat, 0, 0]
def k0_off3 (k0_t1 : Fin k0_t1_loop.trips) : Fin 3 → Nat :=
  let c0_i32_76 : BitVec 32 := 0#32
  let c0_i32 : BitVec 32 := 0#32
  let c1_i32 : BitVec 32 := 1#32
  let arg9 : BitVec 32 := Scf.iv c0_i32 c1_i32 k0_t1
  let c1_i32_75 : BitVec 32 := 1#32
  let v120 : BitVec 32 := Scalar.muli arg9 c1_i32_75
  let v121 : BitVec 32 := Scalar.addi c0_i32_76 v120
  let v225 : Index := Scalar.indexCast v121
  let c0_106 : Index := 0#32
  let c0_107 : Index := 0#32
  ![v225.toNat, 0, 0]
def k0_off4 (k0_t1 : Fin k0_t1_loop.trips) : Fin 3 → Nat :=
  let c0_i32_76 : BitVec 32 := 0#32
  let c0_i32 : BitVec 32 := 0#32
  let c1_i32 : BitVec 32 := 1#32
  let arg9 : BitVec 32 := Scf.iv c0_i32 c1_i32 k0_t1
  let c1_i32_75 : BitVec 32 := 1#32
  let v120 : BitVec 32 := Scalar.muli arg9 c1_i32_75
  let v121 : BitVec 32 := Scalar.addi c0_i32_76 v120
  let v230 : Index := Scalar.indexCast v121
  let c0_108 : Index := 0#32
  let c128 : Index := 128#32
  ![v230.toNat, 0, 128]
@[reducible] def k0_t3_loop : Scf.Loop 32 :=
  let c0_i32_109 : BitVec 32 := 0#32
  let c64_i32_110 : BitVec 32 := 64#32
  let v236 : BitVec 32 := Scalar.addi c0_i32_109 c64_i32_110
  let c1_i32_111 : BitVec 32 := 1#32
  ⟨c0_i32_109, v236, c1_i32_111⟩
def k0_off5 (k0_t1 : Fin k0_t1_loop.trips) (k0_t3 : Fin k0_t3_loop.trips) (c0_i32_116 : BitVec 32) : Fin 3 → Nat :=
  let c0_i32_76 : BitVec 32 := 0#32
  let c0_i32 : BitVec 32 := 0#32
  let c1_i32 : BitVec 32 := 1#32
  let arg9 : BitVec 32 := Scf.iv c0_i32 c1_i32 k0_t1
  let c1_i32_75 : BitVec 32 := 1#32
  let v120 : BitVec 32 := Scalar.muli arg9 c1_i32_75
  let v121 : BitVec 32 := Scalar.addi c0_i32_76 v120
  let c128_i32 : BitVec 32 := 128#32
  let v122 : BitVec 32 := Scalar.muli v121 c128_i32
  let c2_i32_115 : BitVec 32 := 2#32
  let c0_i32_114 : BitVec 32 := 0#32
  let c0_i32_109 : BitVec 32 := 0#32
  let c1_i32_111 : BitVec 32 := 1#32
  let arg10 : BitVec 32 := Scf.iv c0_i32_109 c1_i32_111 k0_t3
  let c1_i32_113 : BitVec 32 := 1#32
  let v237 : BitVec 32 := Scalar.muli arg10 c1_i32_113
  let v238 : BitVec 32 := Scalar.addi c0_i32_114 v237
  let v239 : BitVec 32 := Scalar.muli c2_i32_115 v238
  let v240 : BitVec 32 := Scalar.addi v122 v239
  let v241 : BitVec 32 := Scalar.addi v240 c0_i32_116
  let v243 : Index := Scalar.indexCast v241
  let c0_118 : Index := 0#32
  ![v243.toNat, 0, 0]
def k0_off6 (k0_t1 : Fin k0_t1_loop.trips) (k0_t3 : Fin k0_t3_loop.trips) : Fin 4 → Nat :=
  let c0_i32_76 : BitVec 32 := 0#32
  let c0_i32 : BitVec 32 := 0#32
  let c1_i32 : BitVec 32 := 1#32
  let arg9 : BitVec 32 := Scf.iv c0_i32 c1_i32 k0_t1
  let c1_i32_75 : BitVec 32 := 1#32
  let v120 : BitVec 32 := Scalar.muli arg9 c1_i32_75
  let v121 : BitVec 32 := Scalar.addi c0_i32_76 v120
  let c128_i32 : BitVec 32 := 128#32
  let v122 : BitVec 32 := Scalar.muli v121 c128_i32
  let c2_i32_115 : BitVec 32 := 2#32
  let c0_i32_114 : BitVec 32 := 0#32
  let c0_i32_109 : BitVec 32 := 0#32
  let c1_i32_111 : BitVec 32 := 1#32
  let arg10 : BitVec 32 := Scf.iv c0_i32_109 c1_i32_111 k0_t3
  let c1_i32_113 : BitVec 32 := 1#32
  let v237 : BitVec 32 := Scalar.muli arg10 c1_i32_113
  let v238 : BitVec 32 := Scalar.addi c0_i32_114 v237
  let v239 : BitVec 32 := Scalar.muli c2_i32_115 v238
  let v271 : BitVec 32 := Scalar.addi v122 v239
  let v272 : Index := Scalar.indexCast v271
  let c0_126 : Index := 0#32
  let c0_127 : Index := 0#32
  let c0_128 : Index := 0#32
  ![v272.toNat, 0, 0, 0]
def k0_off7 (k0_t1 : Fin k0_t1_loop.trips) (k0_t3 : Fin k0_t3_loop.trips) : Fin 3 → Nat :=
  let c0_i32_76 : BitVec 32 := 0#32
  let c0_i32 : BitVec 32 := 0#32
  let c1_i32 : BitVec 32 := 1#32
  let arg9 : BitVec 32 := Scf.iv c0_i32 c1_i32 k0_t1
  let c1_i32_75 : BitVec 32 := 1#32
  let v120 : BitVec 32 := Scalar.muli arg9 c1_i32_75
  let v121 : BitVec 32 := Scalar.addi c0_i32_76 v120
  let c64_i32_131 : BitVec 32 := 64#32
  let v291 : BitVec 32 := Scalar.muli v121 c64_i32_131
  let c0_i32_114 : BitVec 32 := 0#32
  let c0_i32_109 : BitVec 32 := 0#32
  let c1_i32_111 : BitVec 32 := 1#32
  let arg10 : BitVec 32 := Scf.iv c0_i32_109 c1_i32_111 k0_t3
  let c1_i32_113 : BitVec 32 := 1#32
  let v237 : BitVec 32 := Scalar.muli arg10 c1_i32_113
  let v238 : BitVec 32 := Scalar.addi c0_i32_114 v237
  let v292 : BitVec 32 := Scalar.addi v291 v238
  let v293 : Index := Scalar.indexCast v292
  let c0_132 : Index := 0#32
  ![v293.toNat, 0, 0]
def k0_off8 (k0_t1 : Fin k0_t1_loop.trips) (k0_t3 : Fin k0_t3_loop.trips) : Fin 3 → Nat :=
  let c3104_i32 : BitVec 32 := 3104#32
  let c0_i32_76 : BitVec 32 := 0#32
  let c0_i32 : BitVec 32 := 0#32
  let c1_i32 : BitVec 32 := 1#32
  let arg9 : BitVec 32 := Scf.iv c0_i32 c1_i32 k0_t1
  let c1_i32_75 : BitVec 32 := 1#32
  let v120 : BitVec 32 := Scalar.muli arg9 c1_i32_75
  let v121 : BitVec 32 := Scalar.addi c0_i32_76 v120
  let c64_i32_131 : BitVec 32 := 64#32
  let v291 : BitVec 32 := Scalar.muli v121 c64_i32_131
  let c0_i32_114 : BitVec 32 := 0#32
  let c0_i32_109 : BitVec 32 := 0#32
  let c1_i32_111 : BitVec 32 := 1#32
  let arg10 : BitVec 32 := Scf.iv c0_i32_109 c1_i32_111 k0_t3
  let c1_i32_113 : BitVec 32 := 1#32
  let v237 : BitVec 32 := Scalar.muli arg10 c1_i32_113
  let v238 : BitVec 32 := Scalar.addi c0_i32_114 v237
  let v292 : BitVec 32 := Scalar.addi v291 v238
  let v297 : BitVec 32 := Scalar.addi c3104_i32 v292
  let v298 : Index := Scalar.indexCast v297
  let c0_133 : Index := 0#32
  ![v298.toNat, 0, 0]
def k0_mult1 (i : grid0.Coords) : BitVec 32 :=
  let arg1 : BitVec 32 := BitVec.ofNat 32 (i 1).val
  let c768_i32 : BitVec 32 := 768#32
  let v1 : BitVec 32 := Scalar.muli arg1 c768_i32
  v1
def k0_off9 (i : grid0.Coords) : Fin 2 → Nat :=
  let c0 : Index := 0#32
  let arg1 : BitVec 32 := BitVec.ofNat 32 (i 1).val
  let c768_i32 : BitVec 32 := 768#32
  let v1 : BitVec 32 := Scalar.muli arg1 c768_i32
  let v2 : BitVec 32 := v1
  let v3 : Index := Scalar.indexCast v2
  ![0, v3.toNat]
def k0_cond1 (i : grid0.Coords) : BitVec 1 :=
  let arg1 : BitVec 32 := BitVec.ofNat 32 (i 1).val
  let c8_i32 : BitVec 32 := 8#32
  let v117 : BitVec 1 := Scalar.cmpi .eq arg1 c8_i32
  let v118 : BitVec 32 := Scalar.extui v117
  let c0_i32_74 : BitVec 32 := 0#32
  let v119 : BitVec 1 := Scalar.cmpi .ne v118 c0_i32_74
  v119

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 1 → Memref sig .tc .vmem S1280x6912 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S768x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x2x8x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S6x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S1280x6912 : Shape := ⟨2, ![1280, 6912]⟩
abbrev S6912x8x4096 : Shape := ⟨3, ![6912, 8, 4096]⟩
abbrev S8x4096x1280 : Shape := ⟨3, ![8, 4096, 1280]⟩
abbrev S6912x32x8x128 : Shape := ⟨4, ![6912, 32, 8, 128]⟩
abbrev S54x8x4096 : Shape := ⟨3, ![54, 8, 4096]⟩
abbrev S54x128x8x4096 : Shape := ⟨4, ![54, 128, 8, 4096]⟩
abbrev S254x54x8x4096 : Shape := ⟨4, ![254, 54, 8, 4096]⟩
abbrev S1x54x8x4096 : Shape := ⟨4, ![1, 54, 8, 4096]⟩
abbrev S54x1x8x4096 : Shape := ⟨4, ![54, 1, 8, 4096]⟩
abbrev S6912x32768 : Shape := ⟨2, ![6912, 32768]⟩
abbrev S1280x32768 : Shape := ⟨2, ![1280, 32768]⟩
abbrev S32768x1280 : Shape := ⟨2, ![32768, 1280]⟩
abbrev S6912x8x32x128 : Shape := ⟨4, ![6912, 8, 32, 128]⟩

abbrev nBuf : Space → Nat
  | .hbm => 5
  | .vmem => 5
  | .smem => 0
  | _ => 0

abbrev bufTy : (tb : Table) → Fin (tcTables nBuf tb) → BufTy
  | .hbm, ⟨0, _⟩ => ⟨S1280x6912, .bf16⟩
  | .hbm, ⟨1, _⟩ => ⟨S6912x8x4096, .bf16⟩
  | .hbm, ⟨2, _⟩ => ⟨S8x4096x1280, .bf16⟩
  | .hbm, ⟨3, _⟩ => ⟨S6912x32x8x128, .fp8e4m3⟩
  | .hbm, ⟨4, _⟩ => ⟨S54x8x4096, .f32⟩
  | .local _ .vmem, ⟨0, _⟩ => ⟨S1280x6912, .bf16⟩
  | .local _ .vmem, ⟨1, _⟩ => ⟨S6912x8x4096, .bf16⟩
  | .local _ .vmem, ⟨2, _⟩ => ⟨S8x4096x1280, .bf16⟩
  | .local _ .vmem, ⟨3, _⟩ => ⟨S6912x32x8x128, .fp8e4m3⟩
  | .local _ .vmem, ⟨4, _⟩ => ⟨S54x8x4096, .f32⟩
  | _, _ => ⟨S1280x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1280x6912 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6912x8x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6912x32x8x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S54x8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelLoops.lean ====
/- The two loops of the kernel's quantising stage, for the frame: what a trip leaves in the buffers it stores into is not
   followed, only that they are still there. -/
module

public import proofs.«01_k».proof.Proof.Gen.Kernel.Frame
public import proofs.«01_k».proof.Proof.Gen.Kernel.Loops

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

abbrev 𝒱₀ : Variants := Variants.none

/-- A buffer held whole at some contents. -/
abbrev some_ {s : Shape} {e : EltTy} (c : Dev nD) (a : Memref sig .tc .vmem s e) : sProp 𝕄 :=
  iprop(∃ f : BufTy.Contents (Elt F) a.view.ty, a.view.loc (c : Thread nD τ) ↦[a.view.set]{fullShare} f)

variable (c : Dev nD) (i : grid0.Coords) (arg2 : Memref sig .tc .vmem S1280x6912 .bf16) (harg2 : arg2.IsWhole)
  (arg3 : Memref sig .tc .vmem S768x16x128 .bf16) (harg3 : arg3.IsWhole)
  (arg4 : Memref sig .tc .vmem S8x256x1280 .bf16) (harg4 : arg4.IsWhole)
  (arg5 : Memref sig .tc .vmem S768x2x8x128 .fp8e4m3) (harg5 : arg5.IsWhole)
  (arg6 : Memref sig .tc .vmem S6x8x256 .f32) (harg6 : arg6.IsWhole)
  (arg7 : Memref sig .tc .vmem S8x1280x256 .f32) (harg7 : arg7.IsWhole)
  (arg8 : Memref sig .tc .vmem S6208x128 .i32) (harg8 : arg8.IsWhole)
  (X : BufTy.Contents (Elt F) arg3.view.ty)

set_option warn.classDefReducibility false in
/-- The inner loop, over the pairs of rows of one group: the input block stays as it is; the codes and the dequantised
    scratch are held at some contents. -/
@[sl_loop] def loopInv_k0_t3 (k0_t1 : Fin k0_t1_loop.trips) (v122 : BitVec 32) (v204 : IVec S16x128 32)
    (c126_i32 : BitVec 32) :
    LoopInvTy_k0_t3 (F := F) Unit ℕ (UR sig nD τ) ℕ 𝒱₀ c none Set.univ i arg2 harg2 arg3 harg3 arg4 harg4 arg5 harg5 arg6
      harg6 arg7 harg7 arg8 harg8 k0_t1 v122 v204 c126_i32 where
  inv := fun _ _ => iprop((arg3.view.loc (c : Thread nD τ) ↦[arg3.view.set]{fullShare} X)
    ∗ some_ c arg5 ∗ some_ c arg8)
  step := fun k _ => by
    have hk : k.val < 64 := Nat.lt_of_lt_of_le k.isLt k0_t3_abs.2.1
    have hk1 : k0_t1.val < 6 := Nat.lt_of_lt_of_le k0_t1.isLt k0_t1_abs.2.1
    unfold k0_t3_body
    iintro ⟨HX, ⟨%f5, H5⟩, ⟨%f8, H8⟩⟩
    sl_exec
    sl_step
    sl_close

set_option warn.classDefReducibility false in
/-- The outer loop, over the six groups of a block: besides, the scales are held at some contents. -/
@[sl_loop] def loopInv_k0_t1 :
    LoopInvTy_k0_t1 (F := F) Unit ℕ (UR sig nD τ) ℕ 𝒱₀ c none Set.univ i arg2 harg2 arg3 harg3 arg4 harg4 arg5 harg5 arg6
      harg6 arg7 harg7 arg8 harg8 where
  inv := fun _ _ => iprop((arg3.view.loc (c : Thread nD τ) ↦[arg3.view.set]{fullShare} X)
    ∗ some_ c arg5 ∗ some_ c arg6 ∗ some_ c arg8)
  step := fun k _ => by
    have hk : k.val < 6 := Nat.lt_of_lt_of_le k.isLt k0_t1_abs.2.1
    unfold k0_t1_body
    iintro ⟨HX, ⟨%f5, H5⟩, ⟨%f6, H6⟩, ⟨%f8, H8⟩⟩
    sl_exec
    sl_step
    sl_close

end Cert.Proof.Kernel
-- ==== Proof.KernelFrame.lean ====
/- The frame of the kernel at machine words: at every grid point the body runs through, whatever its output buffers and
   its two scratch buffers hold, and leaves its input blocks as they are. -/
module

public import proofs.«01_k».proof.Proof.KernelLoops

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [BitOps F]

local notation "𝕄" => MT nD τ sig Unit (Elt F) ℕ (UR sig nD τ) ℕ

/-- The body from buffers at any contents: it ends, the inputs as they were. -/
theorem sound (c : Dev nD) (i : grid0.Coords) (arg2 : Memref sig .tc .vmem S1280x6912 .bf16) (harg2 : arg2.IsWhole)
    (arg3 : Memref sig .tc .vmem S768x16x128 .bf16) (harg3 : arg3.IsWhole)
    (arg4 : Memref sig .tc .vmem S8x256x1280 .bf16) (harg4 : arg4.IsWhole)
    (arg5 : Memref sig .tc .vmem S768x2x8x128 .fp8e4m3) (harg5 : arg5.IsWhole)
    (arg6 : Memref sig .tc .vmem S6x8x256 .f32) (harg6 : arg6.IsWhole)
    (arg7 : Memref sig .tc .vmem S8x1280x256 .f32) (harg7 : arg7.IsWhole)
    (arg8 : Memref sig .tc .vmem S6208x128 .i32) (harg8 : arg8.IsWhole)
    (W : BufTy.Contents (Elt F) arg2.view.ty) (X : BufTy.Contents (Elt F) arg3.view.ty) :
    iprop((arg2.view.loc (c : Thread nD τ) ↦[arg2.view.set]{fullShare} W)
        ∗ (arg3.view.loc (c : Thread nD τ) ↦[arg3.view.set]{fullShare} X)
        ∗ some_ c arg4 ∗ some_ c arg5 ∗ some_ c arg6 ∗ some_ c arg7 ∗ some_ c arg8)
      ⊢ wp frame (wpE (defs₀ (F := F)) 𝒱₀ c none) Set.univ
          (cc0_main i arg2 harg2 arg3 harg3 arg4 harg4 arg5 harg5 arg6 harg6 arg7 harg7 arg8 harg8) fun _ =>
          (iprop((arg2.view.loc (c : Thread nD τ) ↦[arg2.view.set]{fullShare} W)
            ∗ (arg3.view.loc (c : Thread nD τ) ↦[arg3.view.set]{fullShare} X)
            ∗ some_ c arg4 ∗ some_ c arg5 ∗ some_ c arg6 ∗ some_ c arg7 ∗ some_ c arg8) : sProp 𝕄) := by
  simp only [cc0_main_eq_skeleton]; unfold cc0_main_skel
  by_cases h : k0_cond1 i = 1#1
  · simp only [dif_pos h]
    iintro ⟨H2, H3, ⟨%f4, H4⟩, ⟨%f5, H5⟩, ⟨%f6, H6⟩, ⟨%f7, H7⟩, ⟨%f8, H8⟩⟩
    sl_exec
    sl_step
    sl_close
  · simp only [dif_neg h]
    iintro ⟨H2, H3, ⟨%f4, H4⟩, ⟨%f5, H5⟩, ⟨%f6, H6⟩, ⟨%f7, H7⟩, ⟨%f8, H8⟩⟩
    sl_exec
    sl_step
    sl_close

/-- What a buffer's owner holds, contents forgotten. -/
theorem some_of_owns {s : Shape} {e : EltTy} (c : Dev nD) (a : Memref sig .tc .vmem s e) (Y : s.Idx → Elt F e) :
    (owns (c : Thread nD τ) a fullShare Y : sProp 𝕄) ⊢ some_ c a := by
  unfold owns; iintro ⟨%f, -, H⟩; iexists f; iexact H

/-- And back: some contents, read through the buffer's view. -/
theorem owns_of_some {s : Shape} {e : EltTy} (c : Dev nD) (a : Memref sig .tc .vmem s e) :
    (some_ c a : sProp 𝕄) ⊢ iprop(∃ Y, owns (c : Thread nD τ) a fullShare Y) := by
  unfold owns; iintro ⟨%f, H⟩; iexists (a.view.read (Elt F) f); iexists f
  isplitr
  · ipureintro; rfl
  · iexact H

/-- The two scratch buffers and the generator register, as the region's invariant holds them. -/
theorem ΦA_eq (c : Dev nD) : (Pipeline.ΦA spec0 c : sProp 𝕄)
    = iprop((some_ c (Memref.whole cc0_scratch0) ∗ some_ c (Memref.whole cc0_scratch1)) ∗ ∃ r, prngReg c r) := by
  unfold Pipeline.ΦA
  rw [scopedRest0_eq]
  unfold some_
  rw [View.set_whole, View.set_whole]

variable (m : (ℓ : Loc nD τ sig) → Buf (Elt F) ℓ) (ρ : Dev nD → PrngReg)

/-- The outputs are forgotten, the inputs followed. -/
abbrev fgt : Fin cfg0.W → Bool := fun w => match w with
  | ⟨0, _⟩ => false
  | ⟨1, _⟩ => false
  | _ => true

/-- The proof data: the arrays as the region finds them, each input's block left in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fun _ => Classical.choice inferInstance
    | ⟨3, _⟩ => fun _ => Classical.choice inferInstance
    | ⟨4, _⟩ => fun _ => Classical.choice inferInstance
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

theorem defs₀_row (t : Fin cfg0.N) :
    defs₀ (F := F) .tc cfg0.body (cfg0.bodyArgs t (cfg0.slots t)) = bodyAt0 t := by
  unfold defs₀; rw [Defs.onTc_tc]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d)
    ∗ (∃ d, owns (c : Thread nD τ) (st0_3 t) fullShare d)
    ∗ (∃ d, owns (c : Thread nD τ) (st0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare d)
    ∗ (∃ d, owns (c : Thread nD τ) (st0_3 t) fullShare d)
    ∗ (∃ d, owns (c : Thread nD τ) (st0_4 t) fullShare d))

/-- The body at any point. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, ΦA_eq]
  iintro ⟨⟨⟨H7, H8⟩, Hr⟩, Ho, ⟨%d0, H0⟩, ⟨%d1, H1⟩, ⟨%d2, H2⟩, ⟨%d3, H3⟩, ⟨%d4, H4⟩⟩
  unfold owns
  icases H0 with ⟨%f0, %hf0, H0⟩
  icases H1 with ⟨%f1, %hf1, H1⟩
  icases H2 with ⟨%f2, -, H2⟩
  icases H3 with ⟨%f3, -, H3⟩
  icases H4 with ⟨%f4, -, H4⟩
  iapply (wp_wand_r Idealize.ShloMosaic.frame (wpE (defs₀ (F := F)) 𝒱₀ (c : Thread nD τ) none) Set.univ)
  isplitl [H0 H1 H2 H3 H4 H7 H8]
  · iapply (sound c (grid0.coords t) _ _ _ _ _ _ _ _ _ _ _ _ _ _ f0 f1)
    isplitl [H0]; · iexact H0
    isplitl [H1]; · iexact H1
    isplitl [H2]; · iexists f2; iexact H2
    isplitl [H3]; · iexists f3; iexact H3
    isplitl [H4]; · iexists f4; iexact H4
    isplitl [H7]; · iexact H7
    iexact H8
  iintro %_ ⟨H0, H1, ⟨%g2, H2⟩, ⟨%g3, H3⟩, ⟨%g4, H4⟩, H7, H8⟩
  isplitl [H7 H8 Hr]
  · isplitl [H7 H8]
    · isplitl [H7]; · iexact H7
      iexact H8
    · iexact Hr
  isplitl [Ho]; · iexact Ho
  isplitl [H0]
  · iexists f0; isplitr; · ipureintro; exact hf0
    iexact H0
  isplitl [H1]
  · iexists f1; isplitr; · ipureintro; exact hf1
    iexact H1
  isplitl [H2]
  · iexists _; iexists g2; isplitr; swap; · iexact H2
    ipureintro; rfl
  isplitl [H3]
  · iexists _; iexists g3; isplitr; swap; · iexact H3
    ipureintro; rfl
  iexists _; iexists g4; isplitr; swap; · iexact H4
  ipureintro; rfl

/-- The library's body obligation, the outputs forgotten. -/
theorem body_obligation (c : Dev nD) :
    BodyObligationLoose (dats (F := F) m 0 c) (defs₀ (F := F)) 𝒱₀ () Set.univ fgt := fun t => by
  rw [bigSep_W0, bigSep_W0, defs₀_row]
  exact triple_restated (sound_body m c t) rfl .rfl fun _ => .rfl

set_option backward.isDefEq.respectTransparency.types false in
set_option maxHeartbeats 800000 in
/-- The run of the whole program. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ 𝒱₀ fgt m ρ main
    (hbody := fun c => body_obligation m c) (hshare := fun c => (dats m 0 c).share_full fun _ => rfl)
    (howed := fun _ _ => rfl) (V := V m) (hmain := hmain m 𝒱₀) (hA := A_eq m) (hΦ := fun _ _ => rfl)

/-- The frame: both arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨
      (Pipeline.RDat.FramePost.arr_in h.1 c 0 rfl).trans ((A_eq m c 0).trans (V_main_arg0 m c)),
      ((h.1 c).2 main_arg1 (Pipeline.mem_restRefs_of main_arg1 (by decide) (by decide))).trans (V_main_arg1 m c)⟩, h.2⟩)
    (run_main m ρ)

end Cert.Proof.Kernel
-- ==== Proof.IdealLoops.lean ====
/- The two loops of the kernel's quantising stage, for the frame: what a trip leaves in the buffers it stores into is not
   followed, only that they are still there. -/
module

public import proofs.«01_k».proof.Proof.Gen.KernelIdeal.Frame
public import proofs.«01_k».proof.Proof.Gen.KernelIdeal.Loops

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-- A buffer held whole at some contents. -/
abbrev some_ {s : Shape} {e : EltTy} (c : Dev nD) (a : Memref sig .tc .vmem s e) : sProp 𝕄 :=
  iprop(∃ f : BufTy.Contents (Elt F) a.view.ty, a.view.loc (c : Thread nD τ) ↦[a.view.set]{fullShare} f)

variable (c : Dev nD) (i : grid0.Coords) (arg2 : Memref sig .tc .vmem S1280x6912 .bf16) (harg2 : arg2.IsWhole)
  (arg3 : Memref sig .tc .vmem S768x16x128 .bf16) (harg3 : arg3.IsWhole)
  (arg4 : Memref sig .tc .vmem S8x256x1280 .bf16) (harg4 : arg4.IsWhole)
  (arg5 : Memref sig .tc .vmem S768x2x8x128 .fp8e4m3) (harg5 : arg5.IsWhole)
  (arg6 : Memref sig .tc .vmem S6x8x256 .f32) (harg6 : arg6.IsWhole)
  (arg7 : Memref sig .tc .vmem S8x1280x256 .f32) (harg7 : arg7.IsWhole)
  (arg8 : Memref sig .tc .vmem S6208x2x128 .bf16) (harg8 : arg8.IsWhole)
  (X : BufTy.Contents (Elt F) arg3.view.ty)

set_option warn.classDefReducibility false in
/-- The inner loop, over the pairs of rows of one group: the input block stays as it is; the codes and the dequantised
    scratch are held at some contents. -/
@[sl_loop] def loopInv_k0_t3 (k0_t1 : Fin k0_t1_loop.trips) (v122 : BitVec 32) (v200 : IVec S16x128 32) (v202 : IVec S16x128 1)
    (v203 : IVec S16x128 32) :
    LoopInvTy_k0_t3 (F := F) Unit ℕ (UR sig nD τ) ℕ 𝒱₀ c none Set.univ i arg2 harg2 arg3 harg3 arg4 harg4 arg5 harg5 arg6
      harg6 arg7 harg7 arg8 harg8 k0_t1 v122 v200 v202 v203 where
  inv := fun _ _ => iprop((arg3.view.loc (c : Thread nD τ) ↦[arg3.view.set]{fullShare} X)
    ∗ some_ c arg5 ∗ some_ c arg8)
  step := fun k _ => by
    have hk : k.val < 64 := Nat.lt_of_lt_of_le k.isLt k0_t3_abs.2.1
    have hk1 : k0_t1.val < 6 := Nat.lt_of_lt_of_le k0_t1.isLt k0_t1_abs.2.1
    unfold k0_t3_body
    iintro ⟨HX, ⟨%f5, H5⟩, ⟨%f8, H8⟩⟩
    sl_exec
    sl_step
    sl_close

set_option warn.classDefReducibility false in
/-- The outer loop, over the six groups of a block: besides, the scales are held at some contents. -/
@[sl_loop] def loopInv_k0_t1 :
    LoopInvTy_k0_t1 (F := F) Unit ℕ (UR sig nD τ) ℕ 𝒱₀ c none Set.univ i arg2 harg2 arg3 harg3 arg4 harg4 arg5 harg5 arg6
      harg6 arg7 harg7 arg8 harg8 where
  inv := fun _ _ => iprop((arg3.view.loc (c : Thread nD τ) ↦[arg3.view.set]{fullShare} X)
    ∗ some_ c arg5 ∗ some_ c arg6 ∗ some_ c arg8)
  step := fun k _ => by
    have hk : k.val < 6 := Nat.lt_of_lt_of_le k.isLt k0_t1_abs.2.1
    unfold k0_t1_body
    iintro ⟨HX, ⟨%f5, H5⟩, ⟨%f6, H6⟩, ⟨%f8, H8⟩⟩
    sl_exec
    sl_step
    sl_close

end Cert.Proof.KernelIdeal
-- ==== Proof.IdealFrame.lean ====
/- The frame of the kernel at the real numbers: at every grid point the body runs through, whatever its output buffers and
   its two scratch buffers hold, and leaves its input blocks as they are. -/
module

public import proofs.«01_k».proof.Proof.IdealLoops

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

/-- The body from buffers at any contents: it ends, the inputs as they were. -/
theorem sound (c : Dev nD) (i : grid0.Coords) (arg2 : Memref sig .tc .vmem S1280x6912 .bf16) (harg2 : arg2.IsWhole)
    (arg3 : Memref sig .tc .vmem S768x16x128 .bf16) (harg3 : arg3.IsWhole)
    (arg4 : Memref sig .tc .vmem S8x256x1280 .bf16) (harg4 : arg4.IsWhole)
    (arg5 : Memref sig .tc .vmem S768x2x8x128 .fp8e4m3) (harg5 : arg5.IsWhole)
    (arg6 : Memref sig .tc .vmem S6x8x256 .f32) (harg6 : arg6.IsWhole)
    (arg7 : Memref sig .tc .vmem S8x1280x256 .f32) (harg7 : arg7.IsWhole)
    (arg8 : Memref sig .tc .vmem S6208x2x128 .bf16) (harg8 : arg8.IsWhole)
    (W : BufTy.Contents (Elt F) arg2.view.ty) (X : BufTy.Contents (Elt F) arg3.view.ty) :
    iprop((arg2.view.loc (c : Thread nD τ) ↦[arg2.view.set]{fullShare} W)
        ∗ (arg3.view.loc (c : Thread nD τ) ↦[arg3.view.set]{fullShare} X)
        ∗ some_ c arg4 ∗ some_ c arg5 ∗ some_ c arg6 ∗ some_ c arg7 ∗ some_ c arg8)
      ⊢ wp frame (wpE (defs₀ (F := F)) 𝒱₀ c none) Set.univ
          (cc0_main i arg2 harg2 arg3 harg3 arg4 harg4 arg5 harg5 arg6 harg6 arg7 harg7 arg8 harg8) fun _ =>
          (iprop((arg2.view.loc (c : Thread nD τ) ↦[arg2.view.set]{fullShare} W)
            ∗ (arg3.view.loc (c : Thread nD τ) ↦[arg3.view.set]{fullShare} X)
            ∗ some_ c arg4 ∗ some_ c arg5 ∗ some_ c arg6 ∗ some_ c arg7 ∗ some_ c arg8) : sProp 𝕄) := by
  simp only [cc0_main_eq_skeleton]; unfold cc0_main_skel
  by_cases h : k0_cond1 i = 1#1
  · simp only [dif_pos h]
    iintro ⟨H2, H3, ⟨%f4, H4⟩, ⟨%f5, H5⟩, ⟨%f6, H6⟩, ⟨%f7, H7⟩, ⟨%f8, H8⟩⟩
    sl_exec
    sl_step
    sl_close
  · simp only [dif_neg h]
    iintro ⟨H2, H3, ⟨%f4, H4⟩, ⟨%f5, H5⟩, ⟨%f6, H6⟩, ⟨%f7, H7⟩, ⟨%f8, H8⟩⟩
    sl_exec
    sl_step
    sl_close

/-- What a buffer's owner holds, contents forgotten. -/
theorem some_of_owns {s : Shape} {e : EltTy} (c : Dev nD) (a : Memref sig .tc .vmem s e) (Y : s.Idx → Elt F e) :
    (owns (c : Thread nD τ) a fullShare Y : sProp 𝕄) ⊢ some_ c a := by
  unfold owns; iintro ⟨%f, -, H⟩; iexists f; iexact H

/-- And back: some contents, read through the buffer's view. -/
theorem owns_of_some {s : Shape} {e : EltTy} (c : Dev nD) (a : Memref sig .tc .vmem s e) :
    (some_ c a : sProp 𝕄) ⊢ iprop(∃ Y, owns (c : Thread nD τ) a fullShare Y) := by
  unfold owns; iintro ⟨%f, H⟩; iexists (a.view.read (Elt F) f); iexists f
  isplitr
  · ipureintro; rfl
  · iexact H

/-- The two scratch buffers and the generator register, as the region's invariant holds them. -/
theorem ΦA_eq (c : Dev nD) : (Pipeline.ΦA spec0 c : sProp 𝕄)
    = iprop((some_ c (Memref.whole cc0_scratch0) ∗ some_ c (Memref.whole cc0_scratch1)) ∗ ∃ r, prngReg c r) := by
  unfold Pipeline.ΦA
  rw [scopedRest0_eq]
  unfold some_
  rw [View.set_whole, View.set_whole]

variable (m : (ℓ : Loc nD τ sig) → Buf (Elt F) ℓ) (ρ : Dev nD → PrngReg)

/-- The outputs are forgotten, the inputs followed. -/
abbrev fgt : Fin cfg0.W → Bool := fun w => match w with
  | ⟨0, _⟩ => false
  | ⟨1, _⟩ => false
  | _ => true

/-- The proof data: the arrays as the region finds them, each input's block left in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fun _ => Classical.choice inferInstance
    | ⟨3, _⟩ => fun _ => Classical.choice inferInstance
    | ⟨4, _⟩ => fun _ => Classical.choice inferInstance
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

theorem defs₀_row (t : Fin cfg0.N) :
    defs₀ (F := F) .tc cfg0.body (cfg0.bodyArgs t (cfg0.slots t)) = bodyAt0 t := by
  unfold defs₀; rw [Defs.onTc_tc]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d)
    ∗ (∃ d, owns (c : Thread nD τ) (st0_3 t) fullShare d)
    ∗ (∃ d, owns (c : Thread nD τ) (st0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare d)
    ∗ (∃ d, owns (c : Thread nD τ) (st0_3 t) fullShare d)
    ∗ (∃ d, owns (c : Thread nD τ) (st0_4 t) fullShare d))

/-- The body at any point. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, ΦA_eq]
  iintro ⟨⟨⟨H7, H8⟩, Hr⟩, Ho, ⟨%d0, H0⟩, ⟨%d1, H1⟩, ⟨%d2, H2⟩, ⟨%d3, H3⟩, ⟨%d4, H4⟩⟩
  unfold owns
  icases H0 with ⟨%f0, %hf0, H0⟩
  icases H1 with ⟨%f1, %hf1, H1⟩
  icases H2 with ⟨%f2, -, H2⟩
  icases H3 with ⟨%f3, -, H3⟩
  icases H4 with ⟨%f4, -, H4⟩
  iapply (wp_wand_r Idealize.ShloMosaic.frame (wpE (defs₀ (F := F)) 𝒱₀ (c : Thread nD τ) none) Set.univ)
  isplitl [H0 H1 H2 H3 H4 H7 H8]
  · iapply (sound c (grid0.coords t) _ _ _ _ _ _ _ _ _ _ _ _ _ _ f0 f1)
    isplitl [H0]; · iexact H0
    isplitl [H1]; · iexact H1
    isplitl [H2]; · iexists f2; iexact H2
    isplitl [H3]; · iexists f3; iexact H3
    isplitl [H4]; · iexists f4; iexact H4
    isplitl [H7]; · iexact H7
    iexact H8
  iintro %_ ⟨H0, H1, ⟨%g2, H2⟩, ⟨%g3, H3⟩, ⟨%g4, H4⟩, H7, H8⟩
  isplitl [H7 H8 Hr]
  · isplitl [H7 H8]
    · isplitl [H7]; · iexact H7
      iexact H8
    · iexact Hr
  isplitl [Ho]; · iexact Ho
  isplitl [H0]
  · iexists f0; isplitr; · ipureintro; exact hf0
    iexact H0
  isplitl [H1]
  · iexists f1; isplitr; · ipureintro; exact hf1
    iexact H1
  isplitl [H2]
  · iexists _; iexists g2; isplitr; swap; · iexact H2
    ipureintro; rfl
  isplitl [H3]
  · iexists _; iexists g3; isplitr; swap; · iexact H3
    ipureintro; rfl
  iexists _; iexists g4; isplitr; swap; · iexact H4
  ipureintro; rfl

/-- The library's body obligation, the outputs forgotten. -/
theorem body_obligation (c : Dev nD) :
    BodyObligationLoose (dats (F := F) m 0 c) (defs₀ (F := F)) 𝒱₀ () Set.univ fgt := fun t => by
  rw [bigSep_W0, bigSep_W0, defs₀_row]
  exact triple_restated (sound_body m c t) rfl .rfl fun _ => .rfl

set_option backward.isDefEq.respectTransparency.types false in
set_option maxHeartbeats 800000 in
/-- The run of the whole program. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ 𝒱₀ fgt m ρ main
    (hbody := fun c => body_obligation m c) (hshare := fun c => (dats m 0 c).share_full fun _ => rfl)
    (howed := fun _ _ => rfl) (V := V m) (hmain := hmain m 𝒱₀) (hA := A_eq m) (hΦ := fun _ _ => rfl)

/-- The frame: both arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨
      (Pipeline.RDat.FramePost.arr_in h.1 c 0 rfl).trans ((A_eq m c 0).trans (V_main_arg0 m c)),
      ((h.1 c).2 main_arg1 (Pipeline.mem_restRefs_of main_arg1 (by decide) (by decide))).trans (V_main_arg1 m c)⟩, h.2⟩)
    (run_main m ρ)

end Cert.Proof.KernelIdeal
-- ==== Proof.Preserves.lean ====
/- The sanctioned idealization: every pair view and the packed scratch buffer are read at the sites' shapes by the library's
   own proofs of the two rules. -/
module

public import proofs.«01_k».proof.Defs
public import Idealize.ShloMosaic.Lib.Bf16PairInverse

@[expose] public section

namespace Cert.Proof

open Idealize.ShloMosaic

/-- The pass cites the packed buffer once and the pair views at five shapes. -/
theorem preserves : Cert.preserves_Kernel_KernelIdeal :=
  ⟨IdealRules.bf16_pair.bufferStatement _ _, IdealRules.bf16_pair.statement _ _, IdealRules.bf16_pair.statement _ _,
    IdealRules.bf16_pair.statement _ _, IdealRules.bf16_pair.statement _ _, IdealRules.bf16_pair.statement _ _⟩

end Cert.Proof
-- ==== Proof.RefRead.lean ====
/- The reference's arrays read at an index. Each stage is read with its constants as variables. -/
module

public import proofs.«01_k».proof.Proof.Gen.ReferenceIdeal.Frame
public import Idealize.ShloMosaic.Lib.Pointwise

@[expose] public section

set_option maxRecDepth 16384

noncomputable section

namespace Cert.Proof.ReferenceIdeal

open Cert.ReferenceIdeal Cert.ReferenceIdeal.Gen
open Idealize.ShloMosaic Idealize.ShloMosaic.TcCoe

/-- The codes from the entries and the scales. -/
def codes (one lo hi : Ideal .f32) (p : FVec Ideal S54x128x8x4096 .f32) (s : FVec Ideal S54x8x4096 .f32) : FVec Ideal S54x128x8x4096 .fp8e4m3 :=
  truncf .fp8e4m3 (minimumf (broadcast S54x128x8x4096 hi) (maximumf (broadcast S54x128x8x4096 lo) (mulf p
    (broadcastTo S54x128x8x4096 (shapeCast S54x1x8x4096 (divf (broadcast S54x8x4096 one) s) shapeCasts_S54x8x4096_S54x1x8x4096)
      broadcasts_S54x1x8x4096_S54x128x8x4096)))) bitsLt_fp8e4m3_f32

theorem pay5_eq (v : Vec Ideal S6912x8x4096 .bf16) : k0_pay5 v = codes (Scalar.ofBits .f32 0x3F800000#32) (Scalar.ofBits .f32 0xC3E00000#32)
    (Scalar.ofBits .f32 0x43E00000#32) (k0_pay3 v) (k0_pay4 v) := rfl

theorem codes_at (one lo hi : Ideal .f32) (p : FVec Ideal S54x128x8x4096 .f32) (s : FVec Ideal S54x8x4096 .f32) (g : Fin 54) (d : Fin 128) (b : Fin 8) (t : Fin 4096) :
    codes one lo hi p s (ix4 g d b t) = min (hi : EReal) (max (lo : EReal) ((p (ix4 g d b t) : EReal) * Ideal.div one (s (ix3 g b t)))) := by
  pointwise [codes]

/-- The largest magnitudes of the groups. -/
def mags (p : FVec Ideal S54x128x8x4096 .f32) : FVec Ideal S54x8x4096 .f32 :=
  multiReduction .maximumf [1] S54x8x4096 (absf p) 0xFF800000#32 reduces_S54x128x8x4096_S54x8x4096 (.inl rfl) rfl

theorem mags_at (p : FVec Ideal S54x128x8x4096 .f32) (g : Fin 54) (b : Fin 8) (t : Fin 4096) :
    mags p (ix3 g b t) = Finset.fold max (Ideal.ofBits .f32 0xFF800000#32) (fun d : Fin 128 => (FloatOps.absf (p (ix4 g d b t)) : EReal)) Finset.univ := by
  pointwise [mags]

/-- The powers of two from `2^-126` on. -/
def pows (w : BitVec 32) : FVec Ideal S254x54x8x4096 .f32 :=
  exp2 (sitofp .f32 (subi (iota .tc S254x54x8x4096 32 [0] iota_S254x54x8x4096_d0_w32) (broadcast S254x54x8x4096 w)))

theorem pows_at (w : BitVec 32) (z : Fin 254) (g : Fin 54) (b : Fin 8) (t : Fin 4096) :
    pows w (ix4 z g b t) = Ideal.exp2 (((IntOp.subi (BitVec.ofNat 32 z.val) w).toInt : ℝ) : EReal) := by
  pointwise [pows]
  rfl

/-- Of each value the largest of the powers that are at most it. -/
def below (zero : Ideal .f32) (q : FVec Ideal S254x54x8x4096 .f32) (t : FVec Ideal S54x8x4096 .f32) : FVec Ideal S54x8x4096 .f32 :=
  multiReduction .maximumf [0] S54x8x4096 (select (cmpf .ole q (broadcastTo S254x54x8x4096 (shapeCast S1x54x8x4096 t shapeCasts_S54x8x4096_S1x54x8x4096)
      broadcasts_S1x54x8x4096_S254x54x8x4096)) q (broadcast S254x54x8x4096 zero)) 0xFF800000#32 reduces_S254x54x8x4096_S54x8x4096 (.inl rfl) rfl

theorem below_at (zero : Ideal .f32) (q : FVec Ideal S254x54x8x4096 .f32) (t : FVec Ideal S54x8x4096 .f32) (g : Fin 54) (b : Fin 8) (s : Fin 4096) :
    below zero q t (ix3 g b s) = Finset.fold max (Ideal.ofBits .f32 0xFF800000#32)
      (fun z : Fin 254 => if (q (ix4 z g b s) : EReal) ≤ t (ix3 g b s) then (q (ix4 z g b s) : EReal) else zero) Finset.univ := by
  pointwise [below]

/-- The scales from the largest magnitudes. -/
def scales (c lo hi two one : Ideal .f32) (bl : FVec Ideal S54x8x4096 .f32 → FVec Ideal S54x8x4096 .f32) (a : FVec Ideal S54x8x4096 .f32) : FVec Ideal S54x8x4096 .f32 :=
  select (andi (cmpf .oge (mulf a (broadcast S54x8x4096 c)) (broadcast S54x8x4096 lo)) (cmpf .ole (mulf a (broadcast S54x8x4096 c)) (broadcast S54x8x4096 hi)))
    (mulf (broadcast S54x8x4096 two) (bl (mulf a (broadcast S54x8x4096 c)))) (broadcast S54x8x4096 one)

theorem pay4_eq (v : Vec Ideal S6912x8x4096 .bf16) : k0_pay4 v = scales (Scalar.ofBits .f32 0x3B124925#32) (Scalar.ofBits .f32 0x00800000#32)
    (Scalar.ofBits .f32 0x7F7FFFFF#32) (Scalar.ofBits .f32 0x40000000#32) (Scalar.ofBits .f32 0x3F800000#32)
    (below (Scalar.ofBits .f32 0x00000000#32) (pows 126#32)) (mags (k0_pay3 v)) := rfl

theorem sel_and {α : Type} (p q : BitVec 1) (A B : α) : Scalar.select (IntOp.andi p q) A B = if p = 1#1 ∧ q = 1#1 then A else B := by
  rcases BitVec.eq_zero_or_eq_one p with rfl | rfl <;> rcases BitVec.eq_zero_or_eq_one q with rfl | rfl <;> simp [Scalar.select_def, IntOp.andi]

open Classical in
theorem scales_at (c lo hi two one : Ideal .f32) (bl : FVec Ideal S54x8x4096 .f32 → FVec Ideal S54x8x4096 .f32) (a : FVec Ideal S54x8x4096 .f32) (j : S54x8x4096.Idx) :
    scales c lo hi two one bl a j = if (lo : EReal) ≤ (a j : EReal) * c ∧ (a j : EReal) * c ≤ hi
      then (two : EReal) * bl (mulf a (broadcast S54x8x4096 c)) j else one := by
  have h : scales c lo hi two one bl a j = Scalar.select (IntOp.andi (Ideal.cmp .oge ((a j : EReal) * c) lo) (Ideal.cmp .ole ((a j : EReal) * c) hi))
      ((two : EReal) * bl (mulf a (broadcast S54x8x4096 c)) j) one := rfl
  rw [h, sel_and]
  generalize (a j : EReal) * c = u
  exact if_congr (and_congr (Ideal.cmp_oge_eq_one _ _) (Ideal.cmp_ole_eq_one _ _)) rfl rfl

theorem pay6_at (v : Vec Ideal S6912x8x4096 .bf16) (g : Fin 54) (d : Fin 128) (b : Fin 8) (s : Fin 4096) :
    k0_pay6 v (ix4 g d b s) = (k0_pay5 v (ix4 g d b s) : EReal) * k0_pay4 v (ix3 g b s) := by
  pointwise [k0_pay6]

theorem pay3_at (v : Vec Ideal S6912x8x4096 .bf16) (g : Fin 54) (d : Fin 128) (b : Fin 8) (s : Fin 4096) :
    k0_pay3 v (ix4 g d b s) = v (ix3 ⟨128 * g.val + d.val, by omega⟩ b s) := by
  pointwise [k0_pay3]
  exact congrArg (fun z : Fin 6912 => v (ix3 z b s)) (Fin.ext (by show g.val * 128 + d.val = 128 * g.val + d.val; omega))

theorem pay2_at (p : FVec Ideal S54x128x8x4096 .fp8e4m3) (d : Fin 6912) (j : Fin 32) (b : Fin 8) (l : Fin 128) :
    k0_pay2 p (ix4 d j b l) = p (ix4 ⟨d.val / 128, by omega⟩ ⟨d.val % 128, by omega⟩ b ⟨j.val * 128 + l.val, by omega⟩) := by
  pointwise [k0_pay2]

theorem pay1_at (p : FVec Ideal S54x128x8x4096 .bf16) (w : Vec Ideal S1280x6912 .bf16) (b : Fin 8) (s : Fin 4096) (o : Fin 1280) :
    k0_pay1 p w (ix3 b s o) = ∑ d : Fin 6912, (w (ix2 o d) : EReal) * p (ix4 ⟨d.val / 128, by omega⟩ ⟨d.val % 128, by omega⟩ b s) := by
  pointwise [k0_pay1]

end Cert.Proof.ReferenceIdeal
-- ==== Proof.RunLoops.lean ====
/- What the kernel's loops leave in the buffers they store into, followed store by store: the contents before a trip as a
   recursion on the number of trips made. -/
module

public import proofs.«01_k».proof.Proof.Gen.KernelIdeal.Frame
public import proofs.«01_k».proof.Proof.Gen.KernelIdeal.Loops

@[expose] public section

noncomputable section

namespace Cert.Proof.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

variable (c : Dev nD) (i : grid0.Coords) (arg2 : Memref sig .tc .vmem S1280x6912 .bf16) (harg2 : arg2.IsWhole)
  (arg3 : Memref sig .tc .vmem S768x16x128 .bf16) (harg3 : arg3.IsWhole)
  (arg4 : Memref sig .tc .vmem S8x256x1280 .bf16) (harg4 : arg4.IsWhole)
  (arg5 : Memref sig .tc .vmem S768x2x8x128 .fp8e4m3) (harg5 : arg5.IsWhole)
  (arg6 : Memref sig .tc .vmem S6x8x256 .f32) (harg6 : arg6.IsWhole)
  (arg7 : Memref sig .tc .vmem S8x1280x256 .f32) (harg7 : arg7.IsWhole)
  (arg8 : Memref sig .tc .vmem S6208x2x128 .bf16) (harg8 : arg8.IsWhole)
  (X : BufTy.Contents (Elt F) arg3.view.ty)

/-- One row of the staged block, as the inner loop reads it. -/
def row (g : Fin k0_t1_loop.trips) (k : Fin k0_t3_loop.trips) (r : Fin 2) : FVec F S1x16x128 .bf16 :=
  View.readAt (Elt F) arg3.view (Rect.unit (s := S768x16x128) (k0_off5 g k (BitVec.ofNat 32 r.val)) S1x16x128.size
    (k0_off5_inb g k r)).toLoadRect X

/-- What one trip of the inner loop stores into the codes. -/
def pc5 (g : Fin k0_t1_loop.trips) (v200 : IVec S16x128 32) (v202 : IVec S16x128 1) (v203 : IVec S16x128 32)
    (k : Fin k0_t3_loop.trips) : List (View.Piece (Elt F) S768x2x8x128 .fp8e4m3) :=
  [⟨Rect.unit (k0_off6 g k) S2x2x8x128.size (k0_off6_inb g k),
    k0_pay7 (k0_pay36 v200 v202 v203) (row arg3 X g k 0) (row arg3 X g k 1)⟩]

/-- What it stores into the dequantised scratch, the odd rows last. -/
def pc8 (g : Fin k0_t1_loop.trips) (v200 : IVec S16x128 32) (v202 : IVec S16x128 1) (v203 : IVec S16x128 32)
    (k : Fin k0_t3_loop.trips) : List (View.Piece (Elt F) S6208x2x128 .bf16) :=
  [⟨{ off := k0_off8 g k, size := S8x2x128.size, stride := ![388, 1, 1], inb := k0_off8_inb g k, stride_pos := spos_388_1_1 },
      k0_pay40 v200 v202 v203 (k0_pay8 (k0_pay36 v200 v202 v203) (row arg3 X g k 0) (row arg3 X g k 1))⟩,
   ⟨{ off := k0_off7 g k, size := S8x2x128.size, stride := ![388, 1, 1], inb := k0_off7_inb g k, stride_pos := spos_388_1_1 },
      k0_pay39 v200 v202 v203 (k0_pay8 (k0_pay36 v200 v202 v203) (row arg3 X g k 0) (row arg3 X g k 1))⟩]

/-- The codes' buffer after `k` trips of the inner loop, -/
def G5 (g : Fin k0_t1_loop.trips) (v200 : IVec S16x128 32) (v202 : IVec S16x128 1) (v203 : IVec S16x128 32)
    (f : BufTy.Contents (Elt F) arg5.view.ty) : ℕ → BufTy.Contents (Elt F) arg5.view.ty
  | 0 => f
  | k + 1 => if h : k < k0_t3_loop.trips then
      arg5.view.writes (Elt F) (G5 g v200 v202 v203 f k) (pc5 arg3 X g v200 v202 v203 ⟨k, h⟩)
    else G5 g v200 v202 v203 f k

/-- and the dequantised scratch. -/
def G8 (g : Fin k0_t1_loop.trips) (v200 : IVec S16x128 32) (v202 : IVec S16x128 1) (v203 : IVec S16x128 32)
    (f : BufTy.Contents (Elt F) arg8.view.ty) : ℕ → BufTy.Contents (Elt F) arg8.view.ty
  | 0 => f
  | k + 1 => if h : k < k0_t3_loop.trips then
      arg8.view.writes (Elt F) (G8 g v200 v202 v203 f k) (pc8 arg3 X g v200 v202 v203 ⟨k, h⟩)
    else G8 g v200 v202 v203 f k

theorem G5_succ (g : Fin k0_t1_loop.trips) (v200 : IVec S16x128 32) (v202 : IVec S16x128 1) (v203 : IVec S16x128 32)
    (f : BufTy.Contents (Elt F) arg5.view.ty) (k : Fin k0_t3_loop.trips) :
    G5 arg3 arg5 X g v200 v202 v203 f (k.val + 1)
      = arg5.view.writes (Elt F) (G5 arg3 arg5 X g v200 v202 v203 f k.val) (pc5 arg3 X g v200 v202 v203 k) := by
  rw [G5]; exact dif_pos k.isLt

theorem G8_succ (g : Fin k0_t1_loop.trips) (v200 : IVec S16x128 32) (v202 : IVec S16x128 1) (v203 : IVec S16x128 32)
    (f : BufTy.Contents (Elt F) arg8.view.ty) (k : Fin k0_t3_loop.trips) :
    G8 arg3 arg8 X g v200 v202 v203 f (k.val + 1)
      = arg8.view.writes (Elt F) (G8 arg3 arg8 X g v200 v202 v203 f k.val) (pc8 arg3 X g v200 v202 v203 k) := by
  rw [G8]; exact dif_pos k.isLt

set_option warn.classDefReducibility false in
/-- The inner loop, over the pairs of rows of one group. -/
@[sl_loop] def loopInv_k0_t3 (k0_t1 : Fin k0_t1_loop.trips) (v122 : BitVec 32) (v200 : IVec S16x128 32) (v202 : IVec S16x128 1)
    (v203 : IVec S16x128 32) (f5 : BufTy.Contents (Elt F) arg5.view.ty) (f8 : BufTy.Contents (Elt F) arg8.view.ty) :
    LoopInvTy_k0_t3 (F := F) Unit ℕ (UR sig nD τ) ℕ 𝒱₀ c none Set.univ i arg2 harg2 arg3 harg3 arg4 harg4 arg5 harg5 arg6
      harg6 arg7 harg7 arg8 harg8 k0_t1 v122 v200 v202 v203 where
  inv := fun k _ => iprop((arg3.view.loc (c : Thread nD τ) ↦[arg3.view.set]{fullShare} X)
    ∗ (arg5.view.loc (c : Thread nD τ) ↦[arg5.view.set]{fullShare} G5 arg3 arg5 X k0_t1 v200 v202 v203 f5 k)
    ∗ (arg8.view.loc (c : Thread nD τ) ↦[arg8.view.set]{fullShare} G8 arg3 arg8 X k0_t1 v200 v202 v203 f8 k))
  step := fun k _ => by
    have hk : k.val < 64 := Nat.lt_of_lt_of_le k.isLt k0_t3_abs.2.1
    have hk1 : k0_t1.val < 6 := Nat.lt_of_lt_of_le k0_t1.isLt k0_t1_abs.2.1
    unfold k0_t3_body
    rw [G5_succ, G8_succ]
    iintro ⟨HX, H5, H8⟩
    sl_exec
    sl_step
    isplitl [HX]; · iexact HX
    isplitl [H5]; · iexact H5
    iexact H8

/-- The block's largest magnitudes over a group, -/
def amax (g : Fin k0_t1_loop.trips) : FVec F S16x128 .bf16 :=
  st_k0_t2 (F := F) 𝒱₀ c none i arg2 harg2 arg3 harg3 arg4 harg4 arg5 harg5 arg6 harg6 arg7 harg7 arg8 harg8 0#32 1#32 g X
    (k0_pay9 (View.readAt (Elt F) arg3.view (Rect.unit (s := S768x16x128) (k0_off1 g) S1x16x128.size (k0_off1_inb g)).toLoadRect X))
    k0_t2_loop.trips

/-- and the words the ladder of comparisons finds. -/
def w200 (a : FVec F S16x128 .bf16) : IVec S16x128 32 :=
  k0_pay24 (k0_pay11 a) (k0_pay19 a) (k0_pay21 a) (k0_pay22 a) k0_pay23

def w202 (a : FVec F S16x128 .bf16) : IVec S16x128 1 := k0_pay25 (k0_pay11 a)

def w203 : IVec S16x128 32 := k0_pay26

/-- What one trip of the outer loop stores into the scales. -/
def pc6 (g : Fin k0_t1_loop.trips) : List (View.Piece (Elt F) S6x8x256 .f32) :=
  [⟨Rect.unit (k0_off4 g) S1x8x128.size (k0_off4_inb g), k0_pay34 (w200 (amax c i arg2 harg2 arg3 harg3 arg4 harg4 arg5 harg5 arg6 harg6 arg7 harg7 arg8 harg8 X g))
      (w202 (amax c i arg2 harg2 arg3 harg3 arg4 harg4 arg5 harg5 arg6 harg6 arg7 harg7 arg8 harg8 X g)) w203⟩,
   ⟨Rect.unit (k0_off3 g) S1x8x128.size (k0_off3_inb g), k0_pay33 (w200 (amax c i arg2 harg2 arg3 harg3 arg4 harg4 arg5 harg5 arg6 harg6 arg7 harg7 arg8 harg8 X g))
       (w202 (amax c i arg2 harg2 arg3 harg3 arg4 harg4 arg5 harg5 arg6 harg6 arg7 harg7 arg8 harg8 X g)) w203⟩]

/-- The codes, the scales and the dequantised scratch after `k` trips of the outer loop. -/
def H5 (f : BufTy.Contents (Elt F) arg5.view.ty) : ℕ → BufTy.Contents (Elt F) arg5.view.ty
  | 0 => f
  | k + 1 => if h : k < k0_t1_loop.trips then
      G5 arg3 arg5 X ⟨k, h⟩ (w200 (amax c i arg2 harg2 arg3 harg3 arg4 harg4 arg5 harg5 arg6 harg6 arg7 harg7 arg8 harg8 X ⟨k, h⟩))
          (w202 (amax c i arg2 harg2 arg3 harg3 arg4 harg4 arg5 harg5 arg6 harg6 arg7 harg7 arg8 harg8 X ⟨k, h⟩)) w203 (H5 f k) k0_t3_loop.trips
    else H5 f k

def H6 (f : BufTy.Contents (Elt F) arg6.view.ty) : ℕ → BufTy.Contents (Elt F) arg6.view.ty
  | 0 => f
  | k + 1 => if h : k < k0_t1_loop.trips then
      arg6.view.writes (Elt F) (H6 f k) (pc6 c i arg2 harg2 arg3 harg3 arg4 harg4 arg5 harg5 arg6 harg6 arg7 harg7 arg8 harg8 X ⟨k, h⟩)
    else H6 f k

def H8 (f : BufTy.Contents (Elt F) arg8.view.ty) : ℕ → BufTy.Contents (Elt F) arg8.view.ty
  | 0 => f
  | k + 1 => if h : k < k0_t1_loop.trips then
      G8 arg3 arg8 X ⟨k, h⟩ (w200 (amax c i arg2 harg2 arg3 harg3 arg4 harg4 arg5 harg5 arg6 harg6 arg7 harg7 arg8 harg8 X ⟨k, h⟩))
          (w202 (amax c i arg2 harg2 arg3 harg3 arg4 harg4 arg5 harg5 arg6 harg6 arg7 harg7 arg8 harg8 X ⟨k, h⟩)) w203 (H8 f k) k0_t3_loop.trips
    else H8 f k

theorem H5_succ (f : BufTy.Contents (Elt F) arg5.view.ty) (k : Fin k0_t1_loop.trips) :
    H5 c i arg2 harg2 arg3 harg3 arg4 harg4 arg5 harg5 arg6 harg6 arg7 harg7 arg8 harg8 X f (k.val + 1) = G5 arg3 arg5 X k (w200 (amax c i arg2 harg2 arg3 harg3 arg4 harg4 arg5 harg5 arg6 harg6 arg7 harg7 arg8 harg8 X k))
        (w202 (amax c i arg2 harg2 arg3 harg3 arg4 harg4 arg5 harg5 arg6 harg6 arg7 harg7 arg8 harg8 X k)) w203 (H5 c i arg2 harg2 arg3 harg3 arg4 harg4 arg5 harg5 arg6 harg6 arg7 harg7 arg8 harg8 X f k.val) k0_t3_loop.trips := by
  rw [H5]; exact dif_pos k.isLt

theorem H6_succ (f : BufTy.Contents (Elt F) arg6.view.ty) (k : Fin k0_t1_loop.trips) :
    H6 c i arg2 harg2 arg3 harg3 arg4 harg4 arg5 harg5 arg6 harg6 arg7 harg7 arg8 harg8 X f (k.val + 1) = arg6.view.writes (Elt F) (H6 c i arg2 harg2 arg3 harg3 arg4 harg4 arg5 harg5 arg6 harg6 arg7 harg7 arg8 harg8 X f k.val)
      (pc6 c i arg2 harg2 arg3 harg3 arg4 harg4 arg5 harg5 arg6 harg6 arg7 harg7 arg8 harg8 X k) := by
  rw [H6]; exact dif_pos k.isLt

theorem H8_succ (f : BufTy.Contents (Elt F) arg8.view.ty) (k : Fin k0_t1_loop.trips) :
    H8 c i arg2 harg2 arg3 harg3 arg4 harg4 arg5 harg5 arg6 harg6 arg7 harg7 arg8 harg8 X f (k.val + 1) = G8 arg3 arg8 X k (w200 (amax c i arg2 harg2 arg3 harg3 arg4 harg4 arg5 harg5 arg6 harg6 arg7 harg7 arg8 harg8 X k))
        (w202 (amax c i arg2 harg2 arg3 harg3 arg4 harg4 arg5 harg5 arg6 harg6 arg7 harg7 arg8 harg8 X k)) w203 (H8 c i arg2 harg2 arg3 harg3 arg4 harg4 arg5 harg5 arg6 harg6 arg7 harg7 arg8 harg8 X f k.val) k0_t3_loop.trips := by
  rw [H8]; exact dif_pos k.isLt

set_option warn.classDefReducibility false in
/-- The outer loop, over the six groups of a block. -/
@[sl_loop] def loopInv_k0_t1 (f5 : BufTy.Contents (Elt F) arg5.view.ty) (f6 : BufTy.Contents (Elt F) arg6.view.ty)
    (f8 : BufTy.Contents (Elt F) arg8.view.ty) :
    LoopInvTy_k0_t1 (F := F) Unit ℕ (UR sig nD τ) ℕ 𝒱₀ c none Set.univ i arg2 harg2 arg3 harg3 arg4 harg4 arg5 harg5 arg6
      harg6 arg7 harg7 arg8 harg8 where
  inv := fun k _ => iprop((arg3.view.loc (c : Thread nD τ) ↦[arg3.view.set]{fullShare} X)
    ∗ (arg5.view.loc (c : Thread nD τ) ↦[arg5.view.set]{fullShare} H5 c i arg2 harg2 arg3 harg3 arg4 harg4 arg5 harg5 arg6 harg6 arg7 harg7 arg8 harg8 X f5 k)
    ∗ (arg6.view.loc (c : Thread nD τ) ↦[arg6.view.set]{fullShare} H6 c i arg2 harg2 arg3 harg3 arg4 harg4 arg5 harg5 arg6 harg6 arg7 harg7 arg8 harg8 X f6 k)
    ∗ (arg8.view.loc (c : Thread nD τ) ↦[arg8.view.set]{fullShare} H8 c i arg2 harg2 arg3 harg3 arg4 harg4 arg5 harg5 arg6 harg6 arg7 harg7 arg8 harg8 X f8 k))
  step := fun k _ => by
    have hk : k.val < 6 := Nat.lt_of_lt_of_le k.isLt k0_t1_abs.2.1
    unfold k0_t1_body
    rw [H5_succ, H6_succ, H8_succ]
    iintro ⟨HX, H5, H6, H8⟩
    sl_exec
    sl_step
    isplitl [HX]; · iexact HX
    isplitl [H5]; · iexact H5
    isplitl [H6]; · iexact H6
    iexact H8

end Cert.Proof.KernelIdeal.Run
-- ==== Proof.RunBody.lean ====
/- The body run once with its stores followed: the accumulator's and the output's pieces over what the loops left. -/
module

public import proofs.«01_k».proof.Proof.RunLoops

@[expose] public section

noncomputable section

namespace Cert.Proof.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Rows `o` to `o + 383` of the dequantised scratch, -/
abbrev cols (arg8 : Memref sig .tc .vmem S6208x2x128 .bf16) (h : BufTy.Contents (Elt F) arg8.view.ty) (o : ℕ)
    (ho : ∀ a, (![o, 0, 0] : Fin 3 → ℕ) a + S384x2x128.size a ≤ S6208x2x128.size a) : FVec F S384x2x128 .bf16 :=
  View.readAt (Elt F) arg8.view (Rect.unit (s := S6208x2x128) ![o, 0, 0] S384x2x128.size ho).toLoadRect h

/-- batch row `b` of the accumulator, -/
abbrev accRow (arg7 : Memref sig .tc .vmem S8x1280x256 .f32) (f7 : BufTy.Contents (Elt F) arg7.view.ty) (b : ℕ)
    (hb : ∀ a, (![b, 0, 0] : Fin 3 → ℕ) a + S1x1280x256.size a ≤ S8x1280x256.size a) : FVec F S1x1280x256 .f32 :=
  View.readAt (Elt F) arg7.view (Rect.unit (s := S8x1280x256) ![b, 0, 0] S1x1280x256.size hb).toLoadRect f7

/-- and the chunk of the weights a point multiplies by. -/
abbrev wk (i : grid0.Coords) (arg2 : Memref sig .tc .vmem S1280x6912 .bf16) (W : BufTy.Contents (Elt F) arg2.view.ty) :
    FVec F S1280x768 .bf16 :=
  View.readAt (Elt F) arg2.view (Rect.unit (s := S1280x6912) (k0_off9 i) S1280x768.size (k0_off9_inb i)).toLoadRect W

section
variable (i : grid0.Coords) (arg2 : Memref sig .tc .vmem S1280x6912 .bf16) (arg7 : Memref sig .tc .vmem S8x1280x256 .f32)
  (arg8 : Memref sig .tc .vmem S6208x2x128 .bf16) (W : BufTy.Contents (Elt F) arg2.view.ty)
  (f7 : BufTy.Contents (Elt F) arg7.view.ty) (h : BufTy.Contents (Elt F) arg8.view.ty)

/-- The accumulator's new batch rows. -/
def P0 : FVec F S1x1280x256 .f32 := k0_pay41 i (wk i arg2 W) (cols arg8 h 0 inb_S6208x2x128_S384x2x128_0_0_0)
  (cols arg8 h 1552 inb_S6208x2x128_S384x2x128_1552_0_0) (accRow arg7 f7 0 inb_S8x1280x256_S1x1280x256_0_0_0)
def P1 : FVec F S1x1280x256 .f32 := k0_pay43 (BitVec.ofNat 32 (i 1).val) (wk i arg2 W)
  (k0_pay42 (cols arg8 h 3104 inb_S6208x2x128_S384x2x128_3104_0_0) (cols arg8 h 4656 inb_S6208x2x128_S384x2x128_4656_0_0))
  (accRow arg7 f7 1 inb_S8x1280x256_S1x1280x256_1_0_0)
def P2 : FVec F S1x1280x256 .f32 := k0_pay44 (BitVec.ofNat 32 (i 1).val) (wk i arg2 W)
  (cols arg8 h 388 inb_S6208x2x128_S384x2x128_388_0_0) (cols arg8 h 1940 inb_S6208x2x128_S384x2x128_1940_0_0)
  (accRow arg7 f7 2 inb_S8x1280x256_S1x1280x256_2_0_0)
def P3 : FVec F S1x1280x256 .f32 := k0_pay48 (BitVec.ofNat 32 (i 1).val) (wk i arg2 W)
  (k0_pay45 (cols arg8 h 3492 inb_S6208x2x128_S384x2x128_3492_0_0))
  (k0_pay46 (cols arg8 h 5044 inb_S6208x2x128_S384x2x128_5044_0_0))
  (k0_pay47 (cols arg8 h 5044 inb_S6208x2x128_S384x2x128_5044_0_0)) (accRow arg7 f7 3 inb_S8x1280x256_S1x1280x256_3_0_0)
def P4 : FVec F S1x1280x256 .f32 := k0_pay49 (BitVec.ofNat 32 (i 1).val) (wk i arg2 W)
  (cols arg8 h 776 inb_S6208x2x128_S384x2x128_776_0_0) (cols arg8 h 2328 inb_S6208x2x128_S384x2x128_2328_0_0)
  (accRow arg7 f7 4 inb_S8x1280x256_S1x1280x256_4_0_0)
def P5 : FVec F S1x1280x256 .f32 := k0_pay51 (BitVec.ofNat 32 (i 1).val) (wk i arg2 W)
  (k0_pay50 (cols arg8 h 3880 inb_S6208x2x128_S384x2x128_3880_0_0)) (cols arg8 h 5432 inb_S6208x2x128_S384x2x128_5432_0_0)
  (accRow arg7 f7 5 inb_S8x1280x256_S1x1280x256_5_0_0)
def P6 : FVec F S1x1280x256 .f32 := k0_pay52 (BitVec.ofNat 32 (i 1).val) (wk i arg2 W)
  (cols arg8 h 1164 inb_S6208x2x128_S384x2x128_1164_0_0) (cols arg8 h 2716 inb_S6208x2x128_S384x2x128_2716_0_0)
  (accRow arg7 f7 6 inb_S8x1280x256_S1x1280x256_6_0_0)
def P7 : FVec F S1x1280x256 .f32 := k0_pay1 (BitVec.ofNat 32 (i 1).val) (wk i arg2 W)
  (k0_pay53 (cols arg8 h 4268 inb_S6208x2x128_S384x2x128_4268_0_0)) (cols arg8 h 5820 inb_S6208x2x128_S384x2x128_5820_0_0)
  (accRow arg7 f7 7 inb_S8x1280x256_S1x1280x256_7_0_0)

/-- What the body stores into the accumulator, -/
def pc7 : List (View.Piece (Elt F) S8x1280x256 .f32) :=
  [⟨Rect.unit ![7, 0, 0] S1x1280x256.size inb_S8x1280x256_S1x1280x256_7_0_0, P7 i arg2 arg7 arg8 W f7 h⟩,
   ⟨Rect.unit ![6, 0, 0] S1x1280x256.size inb_S8x1280x256_S1x1280x256_6_0_0, P6 i arg2 arg7 arg8 W f7 h⟩,
   ⟨Rect.unit ![5, 0, 0] S1x1280x256.size inb_S8x1280x256_S1x1280x256_5_0_0, P5 i arg2 arg7 arg8 W f7 h⟩,
   ⟨Rect.unit ![4, 0, 0] S1x1280x256.size inb_S8x1280x256_S1x1280x256_4_0_0, P4 i arg2 arg7 arg8 W f7 h⟩,
   ⟨Rect.unit ![3, 0, 0] S1x1280x256.size inb_S8x1280x256_S1x1280x256_3_0_0, P3 i arg2 arg7 arg8 W f7 h⟩,
   ⟨Rect.unit ![2, 0, 0] S1x1280x256.size inb_S8x1280x256_S1x1280x256_2_0_0, P2 i arg2 arg7 arg8 W f7 h⟩,
   ⟨Rect.unit ![1, 0, 0] S1x1280x256.size inb_S8x1280x256_S1x1280x256_1_0_0, P1 i arg2 arg7 arg8 W f7 h⟩,
   ⟨Rect.unit ![0, 0, 0] S1x1280x256.size inb_S8x1280x256_S1x1280x256_0_0_0, P0 i arg2 arg7 arg8 W f7 h⟩]

/-- A batch row of the accumulator as it then is, -/
abbrev newRow (b : ℕ) (hb : ∀ a, (![b, 0, 0] : Fin 3 → ℕ) a + S1x1280x256.size a ≤ S8x1280x256.size a) : FVec F S1x1280x256 .f32 :=
  arg7.view.readCov (pc7 i arg2 arg7 arg8 W f7 h) (Rect.unit (s := S8x1280x256) ![b, 0, 0] S1x1280x256.size hb).toLoadRect

/-- and what the body stores into the output at the last chunk of a tile. -/
def pc4 : List (View.Piece (Elt F) S8x256x1280 .bf16) :=
  [⟨Rect.unit ![7, 0, 0] S1x256x1280.size inb_S8x256x1280_S1x256x1280_7_0_0,
     k0_pay5 (newRow i arg2 arg7 arg8 W f7 h 7 inb_S8x1280x256_S1x1280x256_7_0_0)⟩,
   ⟨Rect.unit ![6, 0, 0] S1x256x1280.size inb_S8x256x1280_S1x256x1280_6_0_0,
     k0_pay4 (newRow i arg2 arg7 arg8 W f7 h 6 inb_S8x1280x256_S1x1280x256_6_0_0)⟩,
   ⟨Rect.unit ![5, 0, 0] S1x256x1280.size inb_S8x256x1280_S1x256x1280_5_0_0,
     k0_pay3 (newRow i arg2 arg7 arg8 W f7 h 5 inb_S8x1280x256_S1x1280x256_5_0_0)⟩,
   ⟨Rect.unit ![4, 0, 0] S1x256x1280.size inb_S8x256x1280_S1x256x1280_4_0_0,
     k0_pay2 (newRow i arg2 arg7 arg8 W f7 h 4 inb_S8x1280x256_S1x1280x256_4_0_0)⟩,
   ⟨Rect.unit ![3, 0, 0] S1x256x1280.size inb_S8x256x1280_S1x256x1280_3_0_0,
     k0_pay30 (newRow i arg2 arg7 arg8 W f7 h 3 inb_S8x1280x256_S1x1280x256_3_0_0)⟩,
   ⟨Rect.unit ![2, 0, 0] S1x256x1280.size inb_S8x256x1280_S1x256x1280_2_0_0,
     k0_pay29 (newRow i arg2 arg7 arg8 W f7 h 2 inb_S8x1280x256_S1x1280x256_2_0_0)⟩,
   ⟨Rect.unit ![1, 0, 0] S1x256x1280.size inb_S8x256x1280_S1x256x1280_1_0_0,
     k0_pay28 (newRow i arg2 arg7 arg8 W f7 h 1 inb_S8x1280x256_S1x1280x256_1_0_0)⟩,
   ⟨Rect.unit ![0, 0, 0] S1x256x1280.size inb_S8x256x1280_S1x256x1280_0_0_0,
     k0_pay27 (newRow i arg2 arg7 arg8 W f7 h 0 inb_S8x1280x256_S1x1280x256_0_0_0)⟩]

/-- The output's buffer after the body. -/
def E4 (arg4 : Memref sig .tc .vmem S8x256x1280 .bf16) (f4 : BufTy.Contents (Elt F) arg4.view.ty) :
    BufTy.Contents (Elt F) arg4.view.ty :=
  if k0_cond1 i = 1#1 then arg4.view.writes (Elt F) f4 (pc4 i arg2 arg7 arg8 W f7 h) else f4

end

/-- The trips of the outer loop. -/
abbrev T1 : ℕ := k0_t1_loop.trips

set_option maxHeartbeats 1000000 in
/-- The body from buffers at given contents. -/
theorem sound (c : Dev nD) (i : grid0.Coords) (arg2 : Memref sig .tc .vmem S1280x6912 .bf16) (harg2 : arg2.IsWhole)
    (arg3 : Memref sig .tc .vmem S768x16x128 .bf16) (harg3 : arg3.IsWhole)
    (arg4 : Memref sig .tc .vmem S8x256x1280 .bf16) (harg4 : arg4.IsWhole)
    (arg5 : Memref sig .tc .vmem S768x2x8x128 .fp8e4m3) (harg5 : arg5.IsWhole)
    (arg6 : Memref sig .tc .vmem S6x8x256 .f32) (harg6 : arg6.IsWhole)
    (arg7 : Memref sig .tc .vmem S8x1280x256 .f32) (harg7 : arg7.IsWhole)
    (arg8 : Memref sig .tc .vmem S6208x2x128 .bf16) (harg8 : arg8.IsWhole)
    (W : BufTy.Contents (Elt F) arg2.view.ty) (X : BufTy.Contents (Elt F) arg3.view.ty)
    (f4 : BufTy.Contents (Elt F) arg4.view.ty) (f5 : BufTy.Contents (Elt F) arg5.view.ty)
    (f6 : BufTy.Contents (Elt F) arg6.view.ty) (f7 : BufTy.Contents (Elt F) arg7.view.ty)
    (f8 : BufTy.Contents (Elt F) arg8.view.ty) :
    iprop((arg2.view.loc (c : Thread nD τ) ↦[arg2.view.set]{fullShare} W)
        ∗ (arg3.view.loc (c : Thread nD τ) ↦[arg3.view.set]{fullShare} X)
        ∗ (arg4.view.loc (c : Thread nD τ) ↦[arg4.view.set]{fullShare} f4)
        ∗ (arg5.view.loc (c : Thread nD τ) ↦[arg5.view.set]{fullShare} f5)
        ∗ (arg6.view.loc (c : Thread nD τ) ↦[arg6.view.set]{fullShare} f6)
        ∗ (arg7.view.loc (c : Thread nD τ) ↦[arg7.view.set]{fullShare} f7)
        ∗ (arg8.view.loc (c : Thread nD τ) ↦[arg8.view.set]{fullShare} f8))
      ⊢ wp frame (wpE (defs₀ (F := F)) 𝒱₀ c none) Set.univ
          (cc0_main i arg2 harg2 arg3 harg3 arg4 harg4 arg5 harg5 arg6 harg6 arg7 harg7 arg8 harg8) fun _ =>
          (iprop((arg2.view.loc (c : Thread nD τ) ↦[arg2.view.set]{fullShare} W)
        ∗ (arg3.view.loc (c : Thread nD τ) ↦[arg3.view.set]{fullShare} X)
        ∗ (arg4.view.loc (c : Thread nD τ) ↦[arg4.view.set]{fullShare} E4 i arg2 arg7 arg8 W f7
            (H8 c i arg2 harg2 arg3 harg3 arg4 harg4 arg5 harg5 arg6 harg6 arg7 harg7 arg8 harg8 X f8 T1) arg4 f4)
        ∗ (arg5.view.loc (c : Thread nD τ) ↦[arg5.view.set]{fullShare}
            H5 c i arg2 harg2 arg3 harg3 arg4 harg4 arg5 harg5 arg6 harg6 arg7 harg7 arg8 harg8 X f5 T1)
        ∗ (arg6.view.loc (c : Thread nD τ) ↦[arg6.view.set]{fullShare}
            H6 c i arg2 harg2 arg3 harg3 arg4 harg4 arg5 harg5 arg6 harg6 arg7 harg7 arg8 harg8 X f6 T1)
        ∗ (arg7.view.loc (c : Thread nD τ) ↦[arg7.view.set]{fullShare} arg7.view.writes (Elt F) f7
            (pc7 i arg2 arg7 arg8 W f7
              (H8 c i arg2 harg2 arg3 harg3 arg4 harg4 arg5 harg5 arg6 harg6 arg7 harg7 arg8 harg8 X f8 T1)))
        ∗ (arg8.view.loc (c : Thread nD τ) ↦[arg8.view.set]{fullShare}
            H8 c i arg2 harg2 arg3 harg3 arg4 harg4 arg5 harg5 arg6 harg6 arg7 harg7 arg8 harg8 X f8 T1)) : sProp 𝕄) := by
  simp only [cc0_main_eq_skeleton]; unfold cc0_main_skel E4
  by_cases h : k0_cond1 i = 1#1
  · simp only [dif_pos h, if_pos h]
    iintro ⟨H2, H3, H4, H5, H6, H7, H8⟩
    sl_exec
    sl_step
    isplitl [H2]; · iexact H2
    isplitl [H3]; · iexact H3
    isplitl [H4]; · iexact H4
    isplitl [H5]; · iexact H5
    isplitl [H6]; · iexact H6
    isplitl [H7]; · iexact H7
    iexact H8
  · simp only [dif_neg h, if_neg h]
    iintro ⟨H2, H3, H4, H5, H6, H7, H8⟩
    sl_exec
    sl_step
    isplitl [H2]; · iexact H2
    isplitl [H3]; · iexact H3
    isplitl [H4]; · iexact H4
    isplitl [H5]; · iexact H5
    isplitl [H6]; · iexact H6
    isplitl [H7]; · iexact H7
    iexact H8

end Cert.Proof.KernelIdeal.Run
-- ==== Proof.Scale.lean ====
/- Powers of two as extended reals, the scale of a group as a function of its largest magnitude, and the ladder of nine
   comparisons by which the kernel finds that scale's exponent. -/
module

public import proofs.«01_k».proof.Proof.Gen.KernelIdeal.Skeleton
public import Idealize.ShloMosaic.Lib.Pointwise

@[expose] public section

noncomputable section

namespace Cert.Proof

open Idealize.ShloMosaic

/-- A power of two. -/
def pw (z : ℤ) : EReal := (((2 : ℝ) ^ z : ℝ) : EReal)

theorem pw_mul (a b : ℤ) : pw a * pw b = pw (a + b) := by
  unfold pw; rw [← EReal.coe_mul, zpow_add₀ (by norm_num)]

theorem pw_pos (a : ℤ) : 0 < pw a := by
  unfold pw; exact_mod_cast zpow_pos (by norm_num : (0 : ℝ) < 2) a

theorem pw_ne_zero (a : ℤ) : pw a ≠ 0 := (pw_pos a).ne'

theorem pw_le_pw {a b : ℤ} : pw a ≤ pw b ↔ a ≤ b := by
  unfold pw; rw [EReal.coe_le_coe_iff]; exact zpow_le_zpow_iff_right₀ (by norm_num)

theorem pw_zero : pw 0 = 1 := by unfold pw; simp

/-- The reciprocal of a power of two. -/
theorem div_pw (a : ℤ) : Ideal.div 1 (pw a) = pw (-a) := by
  unfold Ideal.div; rw [if_neg (pw_ne_zero a), one_mul]; unfold pw; rw [← EReal.coe_inv, zpow_neg]

/-- A word of exponent `E` and no fraction reads as `2^(E - 127)`. -/
theorem ofBits_pow (w : BitVec 32) (E : ℕ) (hE : 1 ≤ E) (hE' : E ≤ 254) (h : w = BitVec.ofNat 32 (E * 2 ^ 23)) :
    Ideal.ofBits .f32 w = pw ((E : ℤ) - 127) := by
  have hb : ∀ E : Fin 255, ((BitVec.ofNat 32 (E.val * 2 ^ 23)).extractLsb' 31 1 == 1#1) = false
      ∧ ((BitVec.ofNat 32 (E.val * 2 ^ 23)).extractLsb' 23 8).toNat = E.val
      ∧ ((BitVec.ofNat 32 (E.val * 2 ^ 23)).extractLsb' 0 23).toNat = 0 := by decide +kernel
  obtain ⟨h1, h2, h3⟩ := hb ⟨E, by omega⟩
  dsimp only at h1 h2 h3
  subst h
  simp only [Ideal.ofBits, Ideal.ieee, h1, h2, h3]
  rw [if_neg (by omega), if_neg (by omega)]
  unfold pw
  congr 1
  rw [if_neg (by simp), one_mul, Nat.add_zero, Nat.cast_pow, Nat.cast_ofNat, ← zpow_natCast, ← zpow_add₀ (by norm_num)]
  congr 1
  push_cast
  ring

/-- One over 448, as the programs round it. -/
def c448 : EReal := Ideal.ofBits .f32 0x3B124925#32

/-- The largest finite single. -/
def fmax : EReal := Ideal.ofBits .f32 0x7F7FFFFF#32

theorem fmax_lt : fmax < pw 128 := by
  unfold fmax pw
  simp [Ideal.ofBits, Ideal.ieee, -EReal.coe_mul]
  have : (340282346638528859811704183484516925440 : ℝ) < 2 ^ 128 := by norm_num
  exact_mod_cast this

/-- The scaled magnitude of a group is a normal single. -/
def normal (t : EReal) : Prop := pw (-126) ≤ t ∧ t ≤ fmax

/-- The exponent of the largest power of two that is at most `t`. -/
def lg (t : EReal) : ℤ := by
  classical exact if h : ∃ z : ℤ, pw z ≤ t ∧ t < pw (z + 1) then h.choose else 0

theorem lg_eq {t : EReal} {z : ℤ} (h : pw z ≤ t) (h' : t < pw (z + 1)) : lg t = z := by
  have he : ∃ z : ℤ, pw z ≤ t ∧ t < pw (z + 1) := ⟨z, h, h'⟩
  unfold lg
  rw [dif_pos he]
  have hs := he.choose_spec
  have h1 := pw_le_pw.not.1 (not_le.2 (lt_of_le_of_lt hs.1 h'))
  have h2 := pw_le_pw.not.1 (not_le.2 (lt_of_le_of_lt h hs.2))
  omega

/-- The exponent of the scale of a group whose scaled largest magnitude is `t`: one above `t`'s own. -/
def ex (t : EReal) : ℤ := lg t + 1

open Classical in
/-- The scale of a group of largest magnitude `a`, -/
def sc (a : EReal) : EReal := if normal (a * c448) then pw (ex (a * c448)) else 1

open Classical in
/-- and its reciprocal. -/
def iv (a : EReal) : EReal := if normal (a * c448) then pw (-ex (a * c448)) else 1

theorem div_sc (a : EReal) : Ideal.div 1 (sc a) = iv a := by
  unfold sc iv
  by_cases h : normal (a * c448)
  · rw [if_pos h, if_pos h, div_pw]
  · rw [if_neg h, if_neg h]
    have := div_pw 0
    rwa [neg_zero, pw_zero] at this

/-- A normal value lies between its own power of two and the next. -/
theorem normal_lg {t : EReal} (h : normal t) : pw (lg t) ≤ t ∧ t < pw (lg t + 1) := by
  have h0 : 0 < t := lt_of_lt_of_le (pw_pos _) h.1
  have ht : t < ⊤ := lt_of_le_of_lt h.2 (lt_trans fmax_lt (by unfold pw; exact EReal.coe_lt_top _))
  lift t to ℝ using ⟨ht.ne, (lt_trans (EReal.bot_lt_zero) h0).ne'⟩ with τ
  have hτ : 0 < τ := by exact_mod_cast h0
  obtain ⟨z, hz⟩ := exists_mem_Ico_zpow hτ (by norm_num : (1 : ℝ) < 2)
  have h1 : pw z ≤ (τ : EReal) := by unfold pw; exact_mod_cast hz.1
  have h2 : (τ : EReal) < pw (z + 1) := by unfold pw; exact_mod_cast hz.2
  rw [lg_eq h1 h2]; exact ⟨h1, h2⟩

theorem pw_le_iff {t : EReal} (h : normal t) (z : ℤ) : pw z ≤ t ↔ z ≤ lg t := by
  obtain ⟨h1, h2⟩ := normal_lg h
  constructor
  · intro hz
    have := pw_le_pw.not.1 (not_le.2 (lt_of_le_of_lt hz h2))
    omega
  · intro hz; exact (pw_le_pw.2 hz).trans h1

theorem lg_range {t : EReal} (h : normal t) : -126 ≤ lg t ∧ lg t ≤ 127 := by
  obtain ⟨h1, h2⟩ := normal_lg h
  refine ⟨(pw_le_iff h _).1 h.1, ?_⟩
  have := pw_le_pw.not.1 (not_le.2 (lt_of_le_of_lt (h1.trans h.2) fmax_lt))
  omega

/-! ## The ladder -/

/-- One comparison: the power reached and the exponent word. -/
def stp (t s : EReal) (n : BitVec 32) (q : EReal × BitVec 32) : EReal × BitVec 32 :=
  (if q.1 * s ≤ t then q.1 * s else q.1, if q.1 * s ≤ t then q.2 + n else q.2)

/-- The powers and words so far, `R` steps of one being left. -/
def Inv (t : EReal) (R : ℕ) (q : EReal × BitVec 32) : Prop :=
  ∃ b : ℕ, q = (pw ((b : ℤ) - 126), BitVec.ofNat 32 (b + 1)) ∧ (b : ℤ) ≤ lg t + 126 ∧ lg t + 126 ≤ b + R

theorem stp_inv {t s : EReal} {n : BitVec 32} {q : EReal × BitVec 32} (h : normal t) (k : ℕ) {R R' : ℕ} (hs : s = pw k)
    (hn : n = BitVec.ofNat 32 k) (hR : R ≤ R' + k) (hk : k ≤ R' + 1) (hq : Inv t R q) : Inv t R' (stp t s n q) := by
  obtain ⟨b, rfl, hb, hb'⟩ := hq
  subst hs hn
  unfold stp
  simp only [pw_mul, pw_le_iff h]
  by_cases hc : (b : ℤ) - 126 + k ≤ lg t
  · rw [if_pos hc, if_pos hc]
    refine ⟨b + k, ?_, by push_cast; omega, by push_cast; omega⟩
    rw [← BitVec.ofNat_add]
    congr 2
    · push_cast; omega
    · omega
  · rw [if_neg hc, if_neg hc]
    exact ⟨b, rfl, hb, by omega⟩

theorem stp_low {t s : EReal} {n : BitVec 32} {q : EReal × BitVec 32} (h : ¬ pw (-126) ≤ t) (k : ℕ) (hs : s = pw k)
    (hq : q = (pw (-126), 0#32)) : stp t s n q = (pw (-126), 0#32) := by
  subst hq hs
  have : ¬ pw (-126 + k) ≤ t := fun h' => h ((pw_le_pw.2 (by omega)).trans h')
  unfold stp; simp only [pw_mul]; rw [if_neg this, if_neg this]

/-- The nine comparisons. -/
def ladder (t : EReal) : EReal × BitVec 32 :=
  let q0 : EReal × BitVec 32 := (Ideal.ofBits .f32 0x00800000#32, if Ideal.ofBits .f32 0x00800000#32 ≤ t then 1#32 else 0#32)
  let q1 := stp t (Ideal.ofBits .f32 0x5F800000#32) 64#32 q0
  let q2 := stp t (Ideal.ofBits .f32 0x5F800000#32) 64#32 q1
  let q3 := stp t (Ideal.ofBits .f32 0x5F800000#32) 64#32 q2
  let q4 := stp t (Ideal.ofBits .f32 0x4F800000#32) 32#32 q3
  let q5 := stp t (Ideal.ofBits .f32 0x47800000#32) 16#32 q4
  let q6 := stp t (Ideal.ofBits .f32 0x43800000#32) 8#32 q5
  let q7 := stp t (Ideal.ofBits .f32 0x41800000#32) 4#32 q6
  let q8 := stp t (Ideal.ofBits .f32 0x40800000#32) 2#32 q7
  stp t (Ideal.ofBits .f32 0x40000000#32) 1#32 q8

theorem step_consts : Ideal.ofBits .f32 0x00800000#32 = pw (-126) ∧ Ideal.ofBits .f32 0x5F800000#32 = pw (64 : ℕ)
    ∧ Ideal.ofBits .f32 0x4F800000#32 = pw (32 : ℕ) ∧ Ideal.ofBits .f32 0x47800000#32 = pw (16 : ℕ)
    ∧ Ideal.ofBits .f32 0x43800000#32 = pw (8 : ℕ) ∧ Ideal.ofBits .f32 0x41800000#32 = pw (4 : ℕ)
    ∧ Ideal.ofBits .f32 0x40800000#32 = pw (2 : ℕ) ∧ Ideal.ofBits .f32 0x40000000#32 = pw (1 : ℕ) := by
  refine ⟨?_, ?_, ?_, ?_, ?_, ?_, ?_, ?_⟩
  · exact ofBits_pow _ 1 (by omega) (by omega) (by decide)
  · exact ofBits_pow _ 191 (by omega) (by omega) (by decide)
  · exact ofBits_pow _ 159 (by omega) (by omega) (by decide)
  · exact ofBits_pow _ 143 (by omega) (by omega) (by decide)
  · exact ofBits_pow _ 135 (by omega) (by omega) (by decide)
  · exact ofBits_pow _ 131 (by omega) (by omega) (by decide)
  · exact ofBits_pow _ 129 (by omega) (by omega) (by decide)
  · exact ofBits_pow _ 128 (by omega) (by omega) (by decide)

theorem ladder_normal {t : EReal} (h : normal t) : (ladder t).2 = BitVec.ofNat 32 ((lg t + 126).toNat + 1) := by
  obtain ⟨c0, c64, c32, c16, c8, c4, c2, c1⟩ := step_consts
  have hr := lg_range h
  have i0 : Inv t 255 (Ideal.ofBits .f32 0x00800000#32, if Ideal.ofBits .f32 0x00800000#32 ≤ t then 1#32 else 0#32) := by
    rw [c0, if_pos h.1]; exact ⟨0, rfl, by push_cast; omega, by push_cast; omega⟩
  have i1 := stp_inv h 64 (R' := 191) c64 rfl (by omega) (by omega) i0
  have i2 := stp_inv h 64 (R' := 127) c64 rfl (by omega) (by omega) i1
  have i3 := stp_inv h 64 (R' := 63) c64 rfl (by omega) (by omega) i2
  have i4 := stp_inv h 32 (R' := 31) c32 rfl (by omega) (by omega) i3
  have i5 := stp_inv h 16 (R' := 15) c16 rfl (by omega) (by omega) i4
  have i6 := stp_inv h 8 (R' := 7) c8 rfl (by omega) (by omega) i5
  have i7 := stp_inv h 4 (R' := 3) c4 rfl (by omega) (by omega) i6
  have i8 := stp_inv h 2 (R' := 1) c2 rfl (by omega) (by omega) i7
  have i9 := stp_inv h 1 (R' := 0) c1 rfl (by omega) (by omega) i8
  obtain ⟨b, hb, h1, h2⟩ := i9
  unfold ladder
  rw [hb]
  have : (lg t + 126).toNat = b := by omega
  rw [this]

theorem ladder_low {t : EReal} (h : ¬ pw (-126) ≤ t) : (ladder t).2 = 0#32 := by
  obtain ⟨c0, c64, c32, c16, c8, c4, c2, c1⟩ := step_consts
  have i0 : ((Ideal.ofBits .f32 0x00800000#32, if Ideal.ofBits .f32 0x00800000#32 ≤ t then 1#32 else 0#32) : EReal × BitVec 32)
      = (pw (-126), 0#32) := by rw [c0, if_neg h]
  unfold ladder
  dsimp only
  rw [stp_low h 1 c1 (stp_low h 2 c2 (stp_low h 4 c4 (stp_low h 8 c8 (stp_low h 16 c16 (stp_low h 32 c32
    (stp_low h 64 c64 (stp_low h 64 c64 (stp_low h 64 c64 i0))))))))]

open Classical in
/-- The exponent word the scales are made from: 0 for a group whose magnitude is no normal single. -/
def word (t : EReal) : BitVec 32 :=
  let b := if t ≤ fmax then (ladder t).2 else 255#32
  if b = 0#32 ∨ b = 255#32 then 0#32 else b - 126#32

/-- A group's scaled magnitude stays clear of the top of the exponent range. -/
def tame (t : EReal) : Prop := t < pw 126 ∨ fmax < t

theorem words_fact : ∀ n : Fin 252, (BitVec.ofNat 32 (n.val + 1) ≠ 0#32 ∧ BitVec.ofNat 32 (n.val + 1) ≠ 255#32)
    ∧ (127#32 + (BitVec.ofNat 32 (n.val + 1) - 126#32)) <<< 23 = BitVec.ofNat 32 ((n.val + 2) * 2 ^ 23)
    ∧ (127#32 - (BitVec.ofNat 32 (n.val + 1) - 126#32)) <<< 23 = BitVec.ofNat 32 ((252 - n.val) * 2 ^ 23) := by decide +kernel

theorem one_word : (127#32 + 0#32) <<< 23 = 0x3F800000#32 ∧ (127#32 - 0#32) <<< 23 = 0x3F800000#32 := by decide +kernel

theorem word_abnormal {t : EReal} (h : ¬ normal t) : word t = 0#32 := by
  unfold word
  by_cases hf : t ≤ fmax
  · have hl : ¬ pw (-126) ≤ t := fun hl => h ⟨hl, hf⟩
    simp only [if_pos hf, ladder_low hl]; simp
  · simp only [if_neg hf]; simp

/-- What the kernel stores as a group's scale, -/
theorem scale_word {a : EReal} (ht : tame (a * c448)) : Ideal.ofBits .f32 ((127#32 + word (a * c448)) <<< 23) = sc a
    ∧ Ideal.ofBits .f32 ((127#32 - word (a * c448)) <<< 23) = iv a := by
  unfold sc iv
  by_cases h : normal (a * c448)
  · rw [if_pos h, if_pos h]
    have hr := lg_range h
    have hlt : a * c448 < pw 126 := ht.resolve_right (not_lt.2 h.2)
    have hl : lg (a * c448) < 126 := by
      have := pw_le_pw.not.1 (not_le.2 (lt_of_le_of_lt (normal_lg h).1 hlt)); omega
    obtain ⟨⟨w1, w2⟩, w3, w4⟩ := words_fact ⟨(lg (a * c448) + 126).toNat, by omega⟩
    dsimp only at w1 w2 w3 w4
    have hw : word (a * c448) = BitVec.ofNat 32 ((lg (a * c448) + 126).toNat + 1) - 126#32 := by
      unfold word
      simp only [if_pos h.2, ladder_normal h]
      rw [if_neg (by simp only [not_or]; exact ⟨w1, w2⟩)]
    rw [hw, w3, w4]
    unfold ex
    constructor
    · rw [ofBits_pow _ _ (by omega) (by omega) rfl]; congr 1; push_cast; omega
    · rw [ofBits_pow _ _ (by omega) (by omega) rfl]; congr 1; omega
  · rw [if_neg h, if_neg h, word_abnormal h, one_word.1, one_word.2]
    exact ⟨Ideal.ofBits_one_f32, Ideal.ofBits_one_f32⟩

end Cert.Proof
-- ==== Proof.Ladder.lean ====
module
public import proofs.«01_k».proof.Proof.RunLoops
public import proofs.«01_k».proof.Proof.Scale
public import Idealize.ShloMosaic.Lib.Pointwise
/-! The scale and its reciprocal as the kernel computes them from the largest magnitudes of a group. -/
@[expose] public section
set_option maxRecDepth 16384
noncomputable section
namespace Cert.Proof.KernelIdeal.Run
open Cert.KernelIdeal Cert.KernelIdeal.Gen
open Idealize.ShloMosaic Idealize.ShloMosaic.TcCoe Idealize.ShloMosaic.Tactic

theorem sel_oge {α : Type} (t p : Ideal .f32) (A B : α) : Scalar.select (Scalar.cmpf (F := Ideal) .oge t p) A B = if (p : EReal) ≤ t then A else B := by
  have : Scalar.cmpf (F := Ideal) .oge t p = Ideal.cmp .oge t p := rfl
  rw [Scalar.select_def, this]
  by_cases h : (p : EReal) ≤ t
  · rw [if_pos h, if_pos ((Ideal.cmp_oge_eq_one _ _).2 h)]
  · rw [if_neg h, if_neg (mt (Ideal.cmp_oge_eq_one _ _).1 h)]

theorem sel_ole {α : Type} (t p : Ideal .f32) (A B : α) : Scalar.select (Scalar.cmpf (F := Ideal) .ole t p) A B = if (t : EReal) ≤ p then A else B := by
  have : Scalar.cmpf (F := Ideal) .ole t p = Ideal.cmp .ole t p := rfl
  rw [Scalar.select_def, this]
  by_cases h : (t : EReal) ≤ p
  · rw [if_pos h, if_pos ((Ideal.cmp_ole_eq_one _ _).2 h)]
  · rw [if_neg h, if_neg (mt (Ideal.cmp_ole_eq_one _ _).1 h)]

/-- One comparison as the program writes it. -/
def stS (t : Ideal .f32) (s : Ideal .f32) (n : BitVec 32) (q : Ideal .f32 × BitVec 32) : Ideal .f32 × BitVec 32 :=
  (Scalar.select (Scalar.cmpf (F := Ideal) .oge t (FloatOps.mulf q.1 s)) (FloatOps.mulf q.1 s) q.1,
   Scalar.select (Scalar.cmpf (F := Ideal) .oge t (FloatOps.mulf q.1 s)) (IntOp.addi q.2 n) q.2)

theorem stS_eq (t s : Ideal .f32) (n : BitVec 32) (q : Ideal .f32 × BitVec 32) : stS t s n q = stp t s n q := by
  unfold stS stp
  rw [sel_oge, sel_oge]; rfl

/-- One comparison, on whole arrays. -/
def stV (T : FVec Ideal S16x128 .f32) (s : BitVec 32) (n : BitVec 32) (q : FVec Ideal S16x128 .f32 × IVec S16x128 32) : FVec Ideal S16x128 .f32 × IVec S16x128 32 :=
  (select (cmpf .oge T (mulf q.1 (broadcast S16x128 (Scalar.ofBits .f32 s)))) (mulf q.1 (broadcast S16x128 (Scalar.ofBits .f32 s))) q.1,
   select (cmpf .oge T (mulf q.1 (broadcast S16x128 (Scalar.ofBits .f32 s)))) (addi q.2 (broadcast S16x128 n)) q.2)

def atJ (j : S16x128.Idx) (q : FVec Ideal S16x128 .f32 × IVec S16x128 32) : Ideal .f32 × BitVec 32 := (q.1 j, q.2 j)

theorem stV_at (T : FVec Ideal S16x128 .f32) (s : BitVec 32) (n : BitVec 32) (q) (j : S16x128.Idx) :
    atJ j (stV T s n q) = stp (T j) (Ideal.ofBits .f32 s) n (atJ j q) := by
  rw [← stS_eq]; rfl

theorem low_at (a : FVec Ideal S16x128 .bf16) :
    (k0_pay22 a, select (k0_pay21 a) (addi (k0_pay19 a) k0_pay23) (k0_pay19 a))
    = stV (k0_pay11 a) 0x5F800000#32 64#32 (stV (k0_pay11 a) 0x5F800000#32 64#32
      (stV (k0_pay11 a) 0x5F800000#32 64#32
       (broadcast S16x128 (Scalar.ofBits .f32 0x00800000#32), select (cmpf (F := Ideal) .oge (k0_pay11 a) (broadcast S16x128 (Scalar.ofBits .f32 0x00800000#32))) (broadcast S16x128 1#32) (broadcast S16x128 0#32)))) := by
  dsimp only [stV, k0_pay22, k0_pay21, k0_pay19, k0_pay23, k0_pay20, k0_pay18, k0_pay17, k0_pay16, k0_pay15, k0_pay14, k0_pay13, k0_pay12]

theorem pay24_at (T : FVec Ideal S16x128 .f32) (B : IVec S16x128 32) (c : IVec S16x128 1) (P : FVec Ideal S16x128 .f32) (n : IVec S16x128 32) :
    k0_pay24 T B c P n
    = (stV T 0x40000000#32 1#32 (stV T 0x40800000#32 2#32
      (stV T 0x41800000#32 4#32 (stV T 0x43800000#32 8#32
      (stV T 0x47800000#32 16#32 (stV T 0x4F800000#32 32#32
       (P, select c (addi B n) B))))))).2 := by
  dsimp only [stV, k0_pay24]

theorem pay11_at (a : FVec Ideal S16x128 .bf16) (j : S16x128.Idx) : k0_pay11 a j = (a j : EReal) * Cert.Proof.c448 := rfl

theorem w200_at (a : FVec Ideal S16x128 .bf16) (j : S16x128.Idx) : w200 a j = (ladder ((a j : EReal) * c448)).2 := by
  unfold w200
  rw [pay24_at, low_at]
  have h : ∀ q : FVec Ideal S16x128 .f32 × IVec S16x128 32, q.2 j = (atJ j q).2 := fun _ => rfl
  rw [h]
  simp only [stV_at, pay11_at]
  have h0 : atJ j (broadcast S16x128 (Scalar.ofBits .f32 0x00800000#32), select (cmpf (F := Ideal) .oge (k0_pay11 a) (broadcast S16x128 (Scalar.ofBits .f32 0x00800000#32))) (broadcast S16x128 1#32) (broadcast S16x128 0#32))
     = (Ideal.ofBits .f32 0x00800000#32, if Ideal.ofBits .f32 0x00800000#32 ≤ (a j : EReal) * c448 then 1#32 else 0#32) := by
    have := sel_oge ((a j : EReal) * c448) (Ideal.ofBits .f32 0x00800000#32) 1#32 0#32
    rw [← this]; rfl
  rw [h0]
  rfl

theorem w202_at (a : FVec Ideal S16x128 .bf16) (j : S16x128.Idx) (A B : BitVec 32) :
    Scalar.select (w202 a j) A B = if (a j : EReal) * c448 ≤ fmax then A else B := by
  rw [← sel_ole]; rfl

theorem pay31_at (a : FVec Ideal S16x128 .bf16) (j : S16x128.Idx) :
    k0_pay31 (w200 a) (w202 a) w203 j = word ((a j : EReal) * c448) := by
  have h : k0_pay31 (w200 a) (w202 a) w203 j =
    Scalar.select (IntOp.ori (IntOp.cmpi .eq (Scalar.select (w202 a j) (w200 a j) 255#32) 0#32)
      (IntOp.cmpi .eq (Scalar.select (w202 a j) (w200 a j) 255#32) 255#32)) 0#32 (IntOp.subi (Scalar.select (w202 a j) (w200 a j) 255#32) 126#32) := rfl
  rw [h, w202_at, w200_at]
  unfold word
  have key : ∀ b : BitVec 32, Scalar.select (IntOp.ori (IntOp.cmpi .eq b 0#32) (IntOp.cmpi .eq b 255#32)) 0#32 (IntOp.subi b 126#32)
      = if b = 0#32 ∨ b = 255#32 then 0#32 else b - 126#32 := by
    intro b
    by_cases h0 : b = 0#32
    · subst h0; simp [IntOp.cmpi, IntOp.ori, Scalar.select]
    by_cases h1 : b = 255#32
    · subst h1; simp [IntOp.cmpi, IntOp.ori, Scalar.select]
    rw [if_neg (by simp only [not_or]; exact ⟨h0, h1⟩)]
    have e0 : (b == 0#32) = false := beq_eq_false_iff_ne.2 h0
    have e1 : (b == 255#32) = false := beq_eq_false_iff_ne.2 h1
    simp only [IntOp.cmpi, IntOp.ori, Scalar.select, e0, e1, IntOp.subi]
    rfl
  rw [key]

/-- The scale stored for a group of largest magnitude `a j`, -/
theorem pay32_at (a : FVec Ideal S16x128 .bf16) (j : S16x128.Idx) (ht : tame ((a j : EReal) * c448)) :
    k0_pay32 (F := Ideal) (w200 a) (w202 a) w203 j = sc (a j) := by
  rw [← (scale_word ht).1, ← pay31_at]
  have : k0_pay32 (F := Ideal) (w200 a) (w202 a) w203 j = Ideal.ofBits .f32 (IntOp.shli ArithUnit.vector (IntOp.addi 127#32 (k0_pay31 (w200 a) (w202 a) w203 j)) 23#32) := rfl
  rw [this]
  congr 1

/-- and the reciprocal the codes are made with. -/
theorem pay36_at (a : FVec Ideal S16x128 .bf16) (j : S16x128.Idx) (ht : tame ((a j : EReal) * c448)) :
    k0_pay36 (F := Ideal) (w200 a) (w202 a) w203 j = iv (a j) := by
  rw [← (scale_word ht).2, ← pay31_at]
  have : k0_pay36 (F := Ideal) (w200 a) (w202 a) w203 j = Ideal.ofBits .f32 (IntOp.shli ArithUnit.vector (IntOp.subi 127#32 (k0_pay31 (w200 a) (w202 a) w203 j)) 23#32) := rfl
  rw [this]
  congr 1

end Cert.Proof.KernelIdeal.Run
-- ==== Proof.Spec.lean ====
/- The mathematics of the problem on numbered entries: the scale of a group, the codes and the dequantised values. -/
module

public import proofs.«01_k».proof.Proof.Scale

@[expose] public section

noncomputable section

namespace Cert.Proof

open Idealize.ShloMosaic

/-- The largest magnitude over group `g` of 128 model rows, in column `(r, l)`. -/
def mag (x : ℕ → ℕ → ℕ → EReal) (g r l : ℕ) : EReal :=
  (Finset.range 128).sup fun d => max (x (128 * g + d) r l) (-x (128 * g + d) r l)

/-- A group's scale; -/
def scale (x : ℕ → ℕ → ℕ → EReal) (g r l : ℕ) : EReal := sc (mag x g r l)

/-- the code of an entry, before its rounding, which is the identity on the reals; -/
def code (x : ℕ → ℕ → ℕ → EReal) (d r l : ℕ) : EReal :=
  min (Ideal.ofBits .f32 0x43E00000#32) (max (Ideal.ofBits .f32 0xC3E00000#32) (x d r l * iv (mag x (d / 128) r l)))

/-- and its dequantised value. -/
def xd (x : ℕ → ℕ → ℕ → EReal) (d r l : ℕ) : EReal := code x d r l * scale x (d / 128) r l

/-- The groups of a block keep clear of the top of the exponent range. -/
def Tame (x : ℕ → ℕ → ℕ → EReal) (G R L : ℕ) : Prop := ∀ g < G, ∀ r < R, ∀ l < L, tame (mag x g r l * c448)

end Cert.Proof
-- ==== Proof.LoopValue.lean ====
/- What the loops leave in the codes, the scales and the dequantised scratch, in closed form. -/
module

public import proofs.«01_k».proof.Proof.Ladder
public import proofs.«01_k».proof.Proof.Spec

@[expose] public section

set_option maxRecDepth 16384

noncomputable section

namespace Cert.Proof.KernelIdeal.Run

open Cert.KernelIdeal Cert.KernelIdeal.Gen
open Idealize.ShloMosaic Idealize.ShloMosaic.TcCoe Idealize.ShloMosaic.Tactic

theorem off1_eq : ∀ g : Fin k0_t1_loop.trips, k0_off1 g = ![128 * g.val, 0, 0] := by decide +kernel
theorem off2_eq : ∀ (g : Fin k0_t1_loop.trips) (k : Fin k0_t2_loop.trips), k0_off2 g k = ![128 * g.val + (k.val + 1), 0, 0] := by
  decide +kernel
theorem off3_eq : ∀ g : Fin k0_t1_loop.trips, k0_off3 g = ![g.val, 0, 0] := by decide +kernel
theorem off4_eq : ∀ g : Fin k0_t1_loop.trips, k0_off4 g = ![g.val, 0, 128] := by decide +kernel
theorem off5_eq : ∀ (g : Fin k0_t1_loop.trips) (k : Fin k0_t3_loop.trips) (r : Fin 2),
    k0_off5 g k (BitVec.ofNat 32 r.val) = ![128 * g.val + 2 * k.val + r.val, 0, 0] := by decide +kernel
theorem off6_eq : ∀ (g : Fin k0_t1_loop.trips) (k : Fin k0_t3_loop.trips), k0_off6 g k = ![128 * g.val + 2 * k.val, 0, 0, 0] := by
  decide +kernel
theorem off7_eq : ∀ (g : Fin k0_t1_loop.trips) (k : Fin k0_t3_loop.trips), k0_off7 g k = ![64 * g.val + k.val, 0, 0] := by
  decide +kernel
theorem off8_eq : ∀ (g : Fin k0_t1_loop.trips) (k : Fin k0_t3_loop.trips), k0_off8 g k = ![3104 + 64 * g.val + k.val, 0, 0] := by
  decide +kernel

theorem trips1 : k0_t1_loop.trips = 6 := by decide +kernel
theorem trips2 : k0_t2_loop.trips = 127 := by decide +kernel
theorem trips3 : k0_t3_loop.trips = 64 := by decide +kernel

/-- One more round of stores of entries of `G`: what was covered and what they cover read as `G`. -/
theorem read_step {sig' : RefSig} {κ : Kind} {sp : Space} {s : Shape} {e : EltTy} (v : View sig' κ sp s e)
    (f : v.ty.Contents (Elt Ideal)) (L : List (View.Piece (Elt Ideal) s e)) (G : s.Idx → Elt Ideal e)
    (hp : ∀ p ∈ L, ∀ x : p.1.shape.Idx, p.2 x = G (p.1.emb x)) (y : s.Idx)
    (h : v.read (Elt Ideal) f y = G y ∨ ∃ p ∈ L, y ∈ p.1.set) : v.read (Elt Ideal) (v.writes (Elt Ideal) f L) y = G y := by
  by_cases hc : ∃ p ∈ L, y ∈ p.1.set
  · exact View.read_writes_apply_of_pieces _ _ G L hp y hc
  · have hn : ∀ p ∈ L, y ∉ p.1.set := fun p hpL hy => hc ⟨p, hpL, hy⟩
    rw [View.read_writes_apply_of_forall_not_mem _ _ y L hn]
    exact h.resolve_right hc

/-- The two rows a packed register holds, read by parity. -/
theorem par_ite {α : Type} {n : ℕ} (f : Fin n → α) (r : Fin n) (h : 2 * (r.val / 2) < n) (h' : r.val % 2 ≠ 0 → 2 * (r.val / 2) + 1 < n) :
    (if h0 : r.val % 2 = 0 then f ⟨2 * (r.val / 2), h⟩ else f ⟨2 * (r.val / 2) + 1, h' h0⟩) = f r := by
  by_cases h0 : r.val % 2 = 0
  · rw [dif_pos h0]; congr 1; apply Fin.ext; show 2 * (r.val / 2) = r.val; omega
  · rw [dif_neg h0]; congr 1; apply Fin.ext; show 2 * (r.val / 2) + 1 = r.val; omega

theorem par_ite' {α : Type} {n : ℕ} (f : Fin n → α) (r : Fin n) (h : 2 * (r.val / 2) < n) (h' : 2 * (r.val / 2) + 1 < n) :
    (if r.val % 2 = 0 then f ⟨2 * (r.val / 2), h⟩ else f ⟨2 * (r.val / 2) + 1, h'⟩) = f r := par_ite f r h fun _ => h'

theorem pay9_at (v : FVec Ideal S1x16x128 .bf16) (r : Fin 16) (l : Fin 128) :
    k0_pay9 v (ix2 r l) = max (v (ix3 0 r l) : EReal) (-v (ix3 0 r l)) := by
  have : k0_pay9 v (ix2 r l) = FloatOps.absf (v (ix3 0 r l)) := by
    pointwise [k0_pay9]
    rw [par_ite' (fun r => v (ix3 0 r l)) r]
  exact this

theorem pay10_at (acc : FVec Ideal S16x128 .bf16) (v : FVec Ideal S1x16x128 .bf16) (r : Fin 16) (l : Fin 128) :
    k0_pay10 acc v (ix2 r l) = max (acc (ix2 r l) : EReal) (max (v (ix3 0 r l) : EReal) (-v (ix3 0 r l))) := by
  have : k0_pay10 acc v (ix2 r l) = max (acc (ix2 r l) : EReal) (FloatOps.absf (v (ix3 0 r l))) := by
    pointwise [k0_pay10]
    rw [par_ite' (fun r => v (ix3 0 r l)) r]
  exact this

/-- The code a row's entry gets. -/
def cd (v : FVec Ideal S16x128 .bf16) (w : FVec Ideal S1x16x128 .bf16) (r : Fin 16) (l : Fin 128) : EReal :=
  min (Ideal.ofBits .f32 0x43E00000#32) (max (Ideal.ofBits .f32 0xC3E00000#32) ((w (ix3 0 r l) : EReal) * v (ix2 r l)))

theorem pay8_at (v : FVec Ideal S16x128 .bf16) (w0 w1 : FVec Ideal S1x16x128 .bf16) (a : Fin 2) (r : Fin 16) (l : Fin 128) :
    k0_pay8 v w0 w1 (ix2 ⟨a.val * 16 + r.val, by omega⟩ l) = if a.val = 0 then cd v w0 r l else cd v w1 r l := by
  have h0 := par_ite' (fun r => w0 (ix3 0 r l)) r (by omega) (by omega)
  have h1 := par_ite' (fun r => w1 (ix3 0 r l)) r (by omega) (by omega)
  unfold cd
  rw [← h0, ← h1]
  match a with
  | ⟨0, _⟩ =>
    rw [if_pos rfl]
    pointwise [k0_pay8, k0_pay6]
  | ⟨1, _⟩ =>
    pointwise [k0_pay8, k0_pay6]

theorem pay7_at (v : FVec Ideal S16x128 .bf16) (w0 w1 : FVec Ideal S1x16x128 .bf16) (a s : Fin 2) (b : Fin 8) (l : Fin 128) :
    k0_pay7 v w0 w1 (ix4 a s b l) = if a.val = 0 then cd v w0 ⟨s.val * 8 + b.val, by omega⟩ l else cd v w1 ⟨s.val * 8 + b.val, by omega⟩ l := by
  rw [← pay8_at]
  pointwise [k0_pay7, k0_pay8, k0_pay6]
  simp only [Nat.add_assoc]

theorem tr_eq (𝒱 : Variants) (c : Dev nD) (bd : Option 𝒱.V) (i : grid0.Coords) (arg2 : Memref sig .tc .vmem S1280x6912 .bf16) (harg2 : arg2.IsWhole)
    (arg3 : Memref sig .tc .vmem S768x16x128 .bf16) (harg3 : arg3.IsWhole)
    (arg4 : Memref sig .tc .vmem S8x256x1280 .bf16) (harg4 : arg4.IsWhole)
    (arg5 : Memref sig .tc .vmem S768x2x8x128 .fp8e4m3) (harg5 : arg5.IsWhole)
    (arg6 : Memref sig .tc .vmem S6x8x256 .f32) (harg6 : arg6.IsWhole)
    (arg7 : Memref sig .tc .vmem S8x1280x256 .f32) (harg7 : arg7.IsWhole)
    (arg8 : Memref sig .tc .vmem S6208x2x128 .bf16) (harg8 : arg8.IsWhole) (c0 c1 : BitVec 32)
    (g : Fin k0_t1_loop.trips) (X : BufTy.Contents (Elt Ideal) arg3.view.ty) (k : Fin k0_t2_loop.trips) (acc : FVec Ideal S16x128 .bf16) :
    tripR_k0_t2 (F := Ideal) 𝒱 c bd i arg2 harg2 arg3 harg3 arg4 harg4 arg5 harg5 arg6 harg6 arg7 harg7 arg8 harg8 c0 c1 g X k acc
    = k0_pay10 acc (View.readAt (Elt Ideal) arg3.view (Rect.unit (s := S768x16x128) (k0_off2 g k) S1x16x128.size (k0_off2_inb g k)).toLoadRect X) := by
  unfold tripR_k0_t2 trip_k0_t2; rfl

theorem pay39_at (v200 : IVec S16x128 32) (v202 : IVec S16x128 1) (v203 : IVec S16x128 32) (v : FVec Ideal S32x128 .bf16)
    (u : Fin 8) (q : Fin 2) (l : Fin 128) : k0_pay39 v200 v202 v203 v (ix3 u q l)
      = (v (ix2 ⟨q.val * 16 + 2 * u.val, by omega⟩ l) : EReal) * k0_pay32 (F := Ideal) v200 v202 v203 (ix2 ⟨2 * u.val, by omega⟩ l) := by
  match q with
  | ⟨0, _⟩ => pointwise [k0_pay39, k0_pay37, k0_pay38, k0_pay35]
  | ⟨1, _⟩ => pointwise [k0_pay39, k0_pay37, k0_pay38, k0_pay35]

theorem pay40_at (v200 : IVec S16x128 32) (v202 : IVec S16x128 1) (v203 : IVec S16x128 32) (v : FVec Ideal S32x128 .bf16)
    (u : Fin 8) (q : Fin 2) (l : Fin 128) : k0_pay40 v200 v202 v203 v (ix3 u q l)
      = (v (ix2 ⟨q.val * 16 + (2 * u.val + 1), by omega⟩ l) : EReal) * k0_pay32 (F := Ideal) v200 v202 v203 (ix2 ⟨2 * u.val + 1, by omega⟩ l) := by
  match q with
  | ⟨0, _⟩ => pointwise [k0_pay40, k0_pay37, k0_pay38, k0_pay35]
  | ⟨1, _⟩ => pointwise [k0_pay40, k0_pay37, k0_pay38, k0_pay35]

theorem pay33_at (v200 : IVec S16x128 32) (v202 : IVec S16x128 1) (v203 : IVec S16x128 32) (z : Fin 1) (b : Fin 8) (l : Fin 128) :
    k0_pay33 v200 v202 v203 (ix3 z b l) = k0_pay32 (F := Ideal) v200 v202 v203 (ix2 ⟨b.val, by omega⟩ l) := by
  pointwise [k0_pay33]

theorem pay34_at (v200 : IVec S16x128 32) (v202 : IVec S16x128 1) (v203 : IVec S16x128 32) (z : Fin 1) (b : Fin 8) (l : Fin 128) :
    k0_pay34 v200 v202 v203 (ix3 z b l) = k0_pay32 (F := Ideal) v200 v202 v203 (ix2 ⟨8 + b.val, by omega⟩ l) := by
  pointwise [k0_pay34]

section
variable (c : Dev nD) (i : grid0.Coords) (arg2 : Memref sig .tc .vmem S1280x6912 .bf16) (harg2 : arg2.IsWhole)
  (arg3 : Memref sig .tc .vmem S768x16x128 .bf16) (harg3 : arg3.IsWhole)
  (arg4 : Memref sig .tc .vmem S8x256x1280 .bf16) (harg4 : arg4.IsWhole)
  (arg5 : Memref sig .tc .vmem S768x2x8x128 .fp8e4m3) (harg5 : arg5.IsWhole)
  (arg6 : Memref sig .tc .vmem S6x8x256 .f32) (harg6 : arg6.IsWhole)
  (arg7 : Memref sig .tc .vmem S8x1280x256 .f32) (harg7 : arg7.IsWhole)
  (arg8 : Memref sig .tc .vmem S6208x2x128 .bf16) (harg8 : arg8.IsWhole)
  (X : BufTy.Contents (Elt Ideal) arg3.view.ty) (x : ℕ → ℕ → ℕ → EReal)

/-- The staged block holds the entries `x`. -/
def Holds : Prop := ∀ (d : Fin 768) (r : Fin 16) (l : Fin 128), arg3.view.read (Elt Ideal) X (ix3 d r l) = x d.val r.val l.val

variable {X x} (hX : Holds arg3 X x)
include hX

theorem row_at (off : Fin 3 → ℕ) (n : ℕ) (hn : n < 768) (hoff : off = ![n, 0, 0])
    (inb : ∀ a, off a + S1x16x128.size a ≤ S768x16x128.size a) (z : Fin 1) (a : Fin 16) (l : Fin 128) :
    View.readAt (Elt Ideal) arg3.view (Rect.unit (s := S768x16x128) off S1x16x128.size inb).toLoadRect X (ix3 z a l)
      = x n a.val l.val := by
  subst hoff
  rw [View.readAt_apply, ← hX ⟨n, hn⟩ a l]
  congr 1
  funext q
  apply Fin.ext
  have hz : z.val = 0 := by omega
  match q with
  | ⟨0, _⟩ => show n + 1 * z.val = n; omega
  | ⟨1, _⟩ => show 0 + 1 * a.val = a.val; omega
  | ⟨2, _⟩ => show 0 + 1 * l.val = l.val; omega

theorem amax_at (g : Fin k0_t1_loop.trips) (r : Fin 16) (l : Fin 128) :
    amax c i arg2 harg2 arg3 harg3 arg4 harg4 arg5 harg5 arg6 harg6 arg7 harg7 arg8 harg8 X g (ix2 r l) = mag x g.val r.val l.val := by
  have hg : g.val < 6 := lt_of_lt_of_eq g.isLt trips1
  have key : ∀ n, n ≤ 127 → st_k0_t2 (F := Ideal) 𝒱₀ c none i arg2 harg2 arg3 harg3 arg4 harg4 arg5 harg5 arg6 harg6 arg7 harg7 arg8 harg8 0#32 1#32 g X
      (k0_pay9 (View.readAt (Elt Ideal) arg3.view (Rect.unit (s := S768x16x128) (k0_off1 g) S1x16x128.size (k0_off1_inb g)).toLoadRect X)) n (ix2 r l)
      = ((Finset.range (n + 1)).sup fun d => max (x (128 * g.val + d) r.val l.val) (-x (128 * g.val + d) r.val l.val) : EReal) := by
    intro n
    induction n with
    | zero =>
      intro _
      rw [st_k0_t2_zero, pay9_at, row_at arg3 hX _ (128 * g.val) (by omega) (off1_eq g)]
      simp
    | succ n ih =>
      intro hn
      have hk : n < k0_t2_loop.trips := by rw [trips2]; omega
      rw [st_k0_t2_succ (k := ⟨n, hk⟩), tr_eq, pay10_at, ih (by omega),
        row_at arg3 hX _ (128 * g.val + (n + 1)) (by omega) (off2_eq g ⟨n, hk⟩), Finset.range_add_one (n := n + 1), Finset.sup_insert]
      exact max_comm _ _
  unfold amax mag
  rw [trips2]
  exact key 127 (by omega)

/-- What the codes' buffer comes to hold, -/
def K5 (x : ℕ → ℕ → ℕ → EReal) (y : S768x2x8x128.Idx) : EReal := code x (y 0).val ((y 1).val * 8 + (y 2).val) (y 3).val

/-- the scales', -/
def K6 (x : ℕ → ℕ → ℕ → EReal) (y : S6x8x256.Idx) : EReal := scale x (y 0).val ((y 2).val / 128 * 8 + (y 1).val) ((y 2).val % 128)

/-- and the dequantised scratch. -/
def K8 (x : ℕ → ℕ → ℕ → EReal) (y : S6208x2x128.Idx) : EReal :=
  xd x (2 * ((y 0).val % 388) + (y 1).val) (2 * ((y 0).val / 388 % 8) + (y 0).val / 388 / 8) (y 2).val

variable (hT : Tame x 6 16 128)
include hT

theorem tame_at (g : Fin k0_t1_loop.trips) (r : Fin 16) (l : Fin 128) : tame ((amax c i arg2 harg2 arg3 harg3 arg4 harg4 arg5 harg5 arg6 harg6 arg7 harg7 arg8 harg8 X g (ix2 r l) : EReal) * c448) := by
  rw [amax_at c i arg2 harg2 arg3 harg3 arg4 harg4 arg5 harg5 arg6 harg6 arg7 harg7 arg8 harg8 hX]
  exact hT _ (lt_of_lt_of_eq g.isLt trips1) _ r.isLt _ l.isLt

theorem sc_at (g : Fin k0_t1_loop.trips) (r : Fin 16) (l : Fin 128) :
    k0_pay32 (F := Ideal) (w200 (amax c i arg2 harg2 arg3 harg3 arg4 harg4 arg5 harg5 arg6 harg6 arg7 harg7 arg8 harg8 X g))
        (w202 (amax c i arg2 harg2 arg3 harg3 arg4 harg4 arg5 harg5 arg6 harg6 arg7 harg7 arg8 harg8 X g)) w203 (ix2 r l) = scale x g.val r.val l.val := by
  rw [pay32_at _ _ (tame_at c i arg2 harg2 arg3 harg3 arg4 harg4 arg5 harg5 arg6 harg6 arg7 harg7 arg8 harg8 hX hT g r l),
    amax_at c i arg2 harg2 arg3 harg3 arg4 harg4 arg5 harg5 arg6 harg6 arg7 harg7 arg8 harg8 hX]
  rfl

/-- The codes of a row. -/
theorem cd_at (g : Fin k0_t1_loop.trips) (k : Fin k0_t3_loop.trips) (q : Fin 2) (r : Fin 16) (l : Fin 128) :
    cd (k0_pay36 (w200 (amax c i arg2 harg2 arg3 harg3 arg4 harg4 arg5 harg5 arg6 harg6 arg7 harg7 arg8 harg8 X g))
        (w202 (amax c i arg2 harg2 arg3 harg3 arg4 harg4 arg5 harg5 arg6 harg6 arg7 harg7 arg8 harg8 X g)) w203) (row arg3 X g k q) r l = code x (128 * g.val + 2 * k.val + q.val) r.val l.val := by
  have hg : g.val < 6 := lt_of_lt_of_eq g.isLt trips1
  have hk : k.val < 64 := lt_of_lt_of_eq k.isLt trips3
  unfold cd row code
  rw [row_at arg3 hX _ (128 * g.val + 2 * k.val + q.val) (by omega) (off5_eq g k q),
    pay36_at _ _ (tame_at c i arg2 harg2 arg3 harg3 arg4 harg4 arg5 harg5 arg6 harg6 arg7 harg7 arg8 harg8 hX hT g r l),
    amax_at c i arg2 harg2 arg3 harg3 arg4 harg4 arg5 harg5 arg6 harg6 arg7 harg7 arg8 harg8 hX]
  have : (128 * g.val + 2 * k.val + q.val) / 128 = g.val := by omega
  rw [this]

theorem ite_cd (g : Fin k0_t1_loop.trips) (k : Fin k0_t3_loop.trips) (a : Fin 2) (r : Fin 16) (l : Fin 128) :
    (if a.val = 0 then cd (k0_pay36 (w200 (amax c i arg2 harg2 arg3 harg3 arg4 harg4 arg5 harg5 arg6 harg6 arg7 harg7 arg8 harg8 X g))
        (w202 (amax c i arg2 harg2 arg3 harg3 arg4 harg4 arg5 harg5 arg6 harg6 arg7 harg7 arg8 harg8 X g)) w203) (row arg3 X g k 0) r l
      else cd (k0_pay36 (w200 (amax c i arg2 harg2 arg3 harg3 arg4 harg4 arg5 harg5 arg6 harg6 arg7 harg7 arg8 harg8 X g))
          (w202 (amax c i arg2 harg2 arg3 harg3 arg4 harg4 arg5 harg5 arg6 harg6 arg7 harg7 arg8 harg8 X g)) w203) (row arg3 X g k 1) r l)
    = code x (128 * g.val + 2 * k.val + a.val) r.val l.val := by
  have h := cd_at c i arg2 harg2 arg3 harg3 arg4 harg4 arg5 harg5 arg6 harg6 arg7 harg7 arg8 harg8 hX hT g k
  match a with
  | ⟨0, _⟩ => rw [if_pos rfl, h]; rfl
  | ⟨1, _⟩ => rw [if_neg (by simp), h]; rfl

/-- A trip of the inner loop stores codes, -/
theorem pc5_spec (g : Fin k0_t1_loop.trips) (k : Fin k0_t3_loop.trips) :
    ∀ p ∈ pc5 (F := Ideal) arg3 X g (w200 (amax c i arg2 harg2 arg3 harg3 arg4 harg4 arg5 harg5 arg6 harg6 arg7 harg7 arg8 harg8 X g))
        (w202 (amax c i arg2 harg2 arg3 harg3 arg4 harg4 arg5 harg5 arg6 harg6 arg7 harg7 arg8 harg8 X g)) w203 k, ∀ y : p.1.shape.Idx, p.2 y = K5 x (p.1.emb y) := by
  intro p hp
  rw [pc5, List.mem_singleton] at hp
  subst hp
  intro y
  obtain ⟨a, s, b, l, rfl⟩ : ∃ (a s : Fin 2) (b : Fin 8) (l : Fin 128), y = ix4 a s b l := ⟨y 0, y 1, y 2, y 3, eq_ix4 y⟩
  refine (pay7_at _ _ _ a s b l).trans ?_
  rw [ite_cd c i arg2 harg2 arg3 harg3 arg4 harg4 arg5 harg5 arg6 harg6 arg7 harg7 arg8 harg8 hX hT]
  show _ = code x (k0_off6 g k 0 + 1 * a.val) ((k0_off6 g k 1 + 1 * s.val) * 8 + (k0_off6 g k 2 + 1 * b.val)) (k0_off6 g k 3 + 1 * l.val)
  rw [off6_eq]
  show _ = code x (128 * g.val + 2 * k.val + 1 * a.val) ((0 + 1 * s.val) * 8 + (0 + 1 * b.val)) (0 + 1 * l.val)
  simp only [Nat.one_mul, Nat.zero_add]

/-- at every entry of its two rows; -/
theorem pc5_cov (g : Fin k0_t1_loop.trips) (k : Fin k0_t3_loop.trips) (v200 : IVec S16x128 32) (v202 : IVec S16x128 1) (v203 : IVec S16x128 32)
    (y : S768x2x8x128.Idx) (h : 128 * g.val + 2 * k.val ≤ (y 0).val) (h' : (y 0).val < 128 * g.val + 2 * k.val + 2) :
    ∃ p ∈ pc5 (F := Ideal) arg3 X g v200 v202 v203 k, y ∈ p.1.set := by
  refine ⟨_, List.mem_singleton_self _, ?_⟩
  rw [LoadRect.mem_set]
  intro q
  show ∃ j < S2x2x8x128.size q, (y q).val = k0_off6 g k q + 1 * j
  rw [off6_eq]
  match q with
  | ⟨0, _⟩ => exact ⟨(y 0).val - (128 * g.val + 2 * k.val), by show _ < 2; omega, by show (y 0).val = 128 * g.val + 2 * k.val + 1 * _; omega⟩
  | ⟨1, _⟩ => exact ⟨(y 1).val, (y 1).isLt, by show (y 1).val = 0 + 1 * _; omega⟩
  | ⟨2, _⟩ => exact ⟨(y 2).val, (y 2).isLt, by show (y 2).val = 0 + 1 * _; omega⟩
  | ⟨3, _⟩ => exact ⟨(y 3).val, (y 3).isLt, by show (y 3).val = 0 + 1 * _; omega⟩

/-- and dequantised values -/
theorem pc8_spec (g : Fin k0_t1_loop.trips) (k : Fin k0_t3_loop.trips) :
    ∀ p ∈ pc8 (F := Ideal) arg3 X g (w200 (amax c i arg2 harg2 arg3 harg3 arg4 harg4 arg5 harg5 arg6 harg6 arg7 harg7 arg8 harg8 X g))
        (w202 (amax c i arg2 harg2 arg3 harg3 arg4 harg4 arg5 harg5 arg6 harg6 arg7 harg7 arg8 harg8 X g)) w203 k, ∀ y : p.1.shape.Idx, p.2 y = K8 x (p.1.emb y) := by
  have hg : g.val < 6 := lt_of_lt_of_eq g.isLt trips1
  have hk : k.val < 64 := lt_of_lt_of_eq k.isLt trips3
  intro p hp
  rw [pc8, List.mem_cons, List.mem_singleton] at hp
  rcases hp with rfl | rfl
  · intro y
    obtain ⟨u, q, l, rfl⟩ : ∃ (u : Fin 8) (q : Fin 2) (l : Fin 128), y = ix3 u q l := ⟨y 0, y 1, y 2, eq_ix3 y⟩
    refine (pay40_at _ _ _ _ u q l).trans ?_
    rw [sc_at c i arg2 harg2 arg3 harg3 arg4 harg4 arg5 harg5 arg6 harg6 arg7 harg7 arg8 harg8 hX hT,
      pay8_at _ _ _ q ⟨2 * u.val + 1, by omega⟩ l, ite_cd c i arg2 harg2 arg3 harg3 arg4 harg4 arg5 harg5 arg6 harg6 arg7 harg7 arg8 harg8 hX hT]
    show _ = K8 x _
    unfold K8 xd
    show _ = code x (2 * ((k0_off8 g k 0 + 388 * u.val) % 388) + (k0_off8 g k 1 + 1 * q.val)) (2 * ((k0_off8 g k 0 + 388 * u.val) / 388 % 8) + (k0_off8 g k 0 + 388 * u.val) / 388 / 8) (k0_off8 g k 2 + 1 * l.val)
      * scale x ((2 * ((k0_off8 g k 0 + 388 * u.val) % 388) + (k0_off8 g k 1 + 1 * q.val)) / 128) (2 * ((k0_off8 g k 0 + 388 * u.val) / 388 % 8) + (k0_off8 g k 0 + 388 * u.val) / 388 / 8) (k0_off8 g k 2 + 1 * l.val)
    rw [off8_eq]
    have e1 : 2 * ((3104 + 64 * g.val + k.val + 388 * u.val) % 388) + (0 + 1 * q.val) = 128 * g.val + 2 * k.val + q.val := by omega
    have e2 : 2 * ((3104 + 64 * g.val + k.val + 388 * u.val) / 388 % 8) + (3104 + 64 * g.val + k.val + 388 * u.val) / 388 / 8 = 2 * u.val + 1 := by omega
    have e3 : (128 * g.val + 2 * k.val + q.val) / 128 = g.val := by omega
    have e4 : 0 + 1 * l.val = l.val := by omega
    show _ = code x (2 * ((3104 + 64 * g.val + k.val + 388 * u.val) % 388) + (0 + 1 * q.val)) (2 * ((3104 + 64 * g.val + k.val + 388 * u.val) / 388 % 8) + (3104 + 64 * g.val + k.val + 388 * u.val) / 388 / 8) (0 + 1 * l.val)
      * scale x ((2 * ((3104 + 64 * g.val + k.val + 388 * u.val) % 388) + (0 + 1 * q.val)) / 128) (2 * ((3104 + 64 * g.val + k.val + 388 * u.val) / 388 % 8) + (3104 + 64 * g.val + k.val + 388 * u.val) / 388 / 8) (0 + 1 * l.val)
    rw [e1, e2, e3, e4]
  · intro y
    obtain ⟨u, q, l, rfl⟩ : ∃ (u : Fin 8) (q : Fin 2) (l : Fin 128), y = ix3 u q l := ⟨y 0, y 1, y 2, eq_ix3 y⟩
    refine (pay39_at _ _ _ _ u q l).trans ?_
    rw [sc_at c i arg2 harg2 arg3 harg3 arg4 harg4 arg5 harg5 arg6 harg6 arg7 harg7 arg8 harg8 hX hT,
      pay8_at _ _ _ q ⟨2 * u.val, by omega⟩ l, ite_cd c i arg2 harg2 arg3 harg3 arg4 harg4 arg5 harg5 arg6 harg6 arg7 harg7 arg8 harg8 hX hT]
    show _ = K8 x _
    unfold K8 xd
    show _ = code x (2 * ((k0_off7 g k 0 + 388 * u.val) % 388) + (k0_off7 g k 1 + 1 * q.val)) (2 * ((k0_off7 g k 0 + 388 * u.val) / 388 % 8) + (k0_off7 g k 0 + 388 * u.val) / 388 / 8) (k0_off7 g k 2 + 1 * l.val)
      * scale x ((2 * ((k0_off7 g k 0 + 388 * u.val) % 388) + (k0_off7 g k 1 + 1 * q.val)) / 128) (2 * ((k0_off7 g k 0 + 388 * u.val) / 388 % 8) + (k0_off7 g k 0 + 388 * u.val) / 388 / 8) (k0_off7 g k 2 + 1 * l.val)
    rw [off7_eq]
    have e1 : 2 * ((64 * g.val + k.val + 388 * u.val) % 388) + (0 + 1 * q.val) = 128 * g.val + 2 * k.val + q.val := by omega
    have e2 : 2 * ((64 * g.val + k.val + 388 * u.val) / 388 % 8) + (64 * g.val + k.val + 388 * u.val) / 388 / 8 = 2 * u.val := by omega
    have e3 : (128 * g.val + 2 * k.val + q.val) / 128 = g.val := by omega
    have e4 : 0 + 1 * l.val = l.val := by omega
    show _ = code x (2 * ((64 * g.val + k.val + 388 * u.val) % 388) + (0 + 1 * q.val)) (2 * ((64 * g.val + k.val + 388 * u.val) / 388 % 8) + (64 * g.val + k.val + 388 * u.val) / 388 / 8) (0 + 1 * l.val)
      * scale x ((2 * ((64 * g.val + k.val + 388 * u.val) % 388) + (0 + 1 * q.val)) / 128) (2 * ((64 * g.val + k.val + 388 * u.val) / 388 % 8) + (64 * g.val + k.val + 388 * u.val) / 388 / 8) (0 + 1 * l.val)
    rw [e1, e2, e3, e4]

/-- into one row of each of the sixteen planes. -/
theorem pc8_cov (g : Fin k0_t1_loop.trips) (k : Fin k0_t3_loop.trips) (v200 : IVec S16x128 32) (v202 : IVec S16x128 1) (v203 : IVec S16x128 32)
    (y : S6208x2x128.Idx) (h : (y 0).val % 388 = 64 * g.val + k.val) :
    ∃ p ∈ pc8 (F := Ideal) arg3 X g v200 v202 v203 k, y ∈ p.1.set := by
  have hg : g.val < 6 := lt_of_lt_of_eq g.isLt trips1
  have hk : k.val < 64 := lt_of_lt_of_eq k.isLt trips3
  have hy : (y 0).val < 6208 := (y 0).isLt
  by_cases hp : (y 0).val < 3104
  · refine ⟨_, List.mem_cons_of_mem _ (List.mem_singleton_self _), ?_⟩
    rw [LoadRect.mem_set]
    intro q
    show ∃ j < S8x2x128.size q, (y q).val = k0_off7 g k q + (![388, 1, 1] : Fin 3 → ℕ) q * j
    rw [off7_eq]
    match q with
    | ⟨0, _⟩ => exact ⟨(y 0).val / 388, by show _ < 8; omega, by show (y 0).val = 64 * g.val + k.val + 388 * _; omega⟩
    | ⟨1, _⟩ => exact ⟨(y 1).val, (y 1).isLt, by show (y 1).val = 0 + 1 * _; omega⟩
    | ⟨2, _⟩ => exact ⟨(y 2).val, (y 2).isLt, by show (y 2).val = 0 + 1 * _; omega⟩
  · refine ⟨_, List.mem_cons_self, ?_⟩
    rw [LoadRect.mem_set]
    intro q
    show ∃ j < S8x2x128.size q, (y q).val = k0_off8 g k q + (![388, 1, 1] : Fin 3 → ℕ) q * j
    rw [off8_eq]
    match q with
    | ⟨0, _⟩ => exact ⟨(y 0).val / 388 - 8, by show _ < 8; omega, by show (y 0).val = 3104 + 64 * g.val + k.val + 388 * _; omega⟩
    | ⟨1, _⟩ => exact ⟨(y 1).val, (y 1).isLt, by show (y 1).val = 0 + 1 * _; omega⟩
    | ⟨2, _⟩ => exact ⟨(y 2).val, (y 2).isLt, by show (y 2).val = 0 + 1 * _; omega⟩

/-- A trip of the outer loop stores scales, -/
theorem pc6_spec (g : Fin k0_t1_loop.trips) :
    ∀ p ∈ pc6 c i arg2 harg2 arg3 harg3 arg4 harg4 arg5 harg5 arg6 harg6 arg7 harg7 arg8 harg8 X g, ∀ y : p.1.shape.Idx, p.2 y = K6 x (p.1.emb y) := by
  intro p hp
  rw [pc6, List.mem_cons, List.mem_singleton] at hp
  rcases hp with rfl | rfl
  · intro y
    obtain ⟨z, b, l, rfl⟩ : ∃ (z : Fin 1) (b : Fin 8) (l : Fin 128), y = ix3 z b l := ⟨y 0, y 1, y 2, eq_ix3 y⟩
    refine (pay34_at _ _ _ z b l).trans ?_
    rw [sc_at c i arg2 harg2 arg3 harg3 arg4 harg4 arg5 harg5 arg6 harg6 arg7 harg7 arg8 harg8 hX hT]
    show _ = scale x (k0_off4 g 0 + 1 * z.val) ((k0_off4 g 2 + 1 * l.val) / 128 * 8 + (k0_off4 g 1 + 1 * b.val)) ((k0_off4 g 2 + 1 * l.val) % 128)
    rw [off4_eq]
    show _ = scale x (g.val + 1 * z.val) ((128 + 1 * l.val) / 128 * 8 + (0 + 1 * b.val)) ((128 + 1 * l.val) % 128)
    have e1 : g.val + 1 * z.val = g.val := by omega
    have e2 : (128 + 1 * l.val) / 128 * 8 + (0 + 1 * b.val) = 8 + b.val := by omega
    have e3 : (128 + 1 * l.val) % 128 = l.val := by omega
    rw [e1, e2, e3]
  · intro y
    obtain ⟨z, b, l, rfl⟩ : ∃ (z : Fin 1) (b : Fin 8) (l : Fin 128), y = ix3 z b l := ⟨y 0, y 1, y 2, eq_ix3 y⟩
    refine (pay33_at _ _ _ z b l).trans ?_
    rw [sc_at c i arg2 harg2 arg3 harg3 arg4 harg4 arg5 harg5 arg6 harg6 arg7 harg7 arg8 harg8 hX hT]
    show _ = scale x (k0_off3 g 0 + 1 * z.val) ((k0_off3 g 2 + 1 * l.val) / 128 * 8 + (k0_off3 g 1 + 1 * b.val)) ((k0_off3 g 2 + 1 * l.val) % 128)
    rw [off3_eq]
    show _ = scale x (g.val + 1 * z.val) ((0 + 1 * l.val) / 128 * 8 + (0 + 1 * b.val)) ((0 + 1 * l.val) % 128)
    have e1 : g.val + 1 * z.val = g.val := by omega
    have e2 : (0 + 1 * l.val) / 128 * 8 + (0 + 1 * b.val) = b.val := by omega
    have e3 : (0 + 1 * l.val) % 128 = l.val := by omega
    rw [e1, e2, e3]

/-- the whole plane of its group. -/
theorem pc6_cov (g : Fin k0_t1_loop.trips) (y : S6x8x256.Idx) (h : (y 0).val = g.val) :
    ∃ p ∈ pc6 c i arg2 harg2 arg3 harg3 arg4 harg4 arg5 harg5 arg6 harg6 arg7 harg7 arg8 harg8 X g, y ∈ p.1.set := by
  have hy : (y 2).val < 256 := (y 2).isLt
  by_cases hp : (y 2).val < 128
  · refine ⟨_, List.mem_cons_of_mem _ (List.mem_singleton_self _), ?_⟩
    rw [LoadRect.mem_set]
    intro q
    show ∃ j < S1x8x128.size q, (y q).val = k0_off3 g q + 1 * j
    rw [off3_eq]
    match q with
    | ⟨0, _⟩ => exact ⟨0, by show _ < 1; omega, by show (y 0).val = g.val + 1 * _; omega⟩
    | ⟨1, _⟩ => exact ⟨(y 1).val, (y 1).isLt, by show (y 1).val = 0 + 1 * _; omega⟩
    | ⟨2, _⟩ => exact ⟨(y 2).val, hp, by show (y 2).val = 0 + 1 * _; omega⟩
  · refine ⟨_, List.mem_cons_self, ?_⟩
    rw [LoadRect.mem_set]
    intro q
    show ∃ j < S1x8x128.size q, (y q).val = k0_off4 g q + 1 * j
    rw [off4_eq]
    match q with
    | ⟨0, _⟩ => exact ⟨0, by show _ < 1; omega, by show (y 0).val = g.val + 1 * _; omega⟩
    | ⟨1, _⟩ => exact ⟨(y 1).val, (y 1).isLt, by show (y 1).val = 0 + 1 * _; omega⟩
    | ⟨2, _⟩ => exact ⟨(y 2).val - 128, by show _ < 128; omega, by show (y 2).val = 128 + 1 * _; omega⟩

/-- The codes after so many trips, -/
theorem G5_at (g : Fin k0_t1_loop.trips) (f : BufTy.Contents (Elt Ideal) arg5.view.ty)
    (hf : ∀ y : S768x2x8x128.Idx, (y 0).val < 128 * g.val → arg5.view.read (Elt Ideal) f y = K5 x y) :
    ∀ n ≤ 64, ∀ y : S768x2x8x128.Idx, (y 0).val < 128 * g.val + 2 * n →
      arg5.view.read (Elt Ideal) (G5 arg3 arg5 X g (w200 (amax c i arg2 harg2 arg3 harg3 arg4 harg4 arg5 harg5 arg6 harg6 arg7 harg7 arg8 harg8 X g))
          (w202 (amax c i arg2 harg2 arg3 harg3 arg4 harg4 arg5 harg5 arg6 harg6 arg7 harg7 arg8 harg8 X g)) w203 f n) y = K5 x y
  | 0, _, y, hy => hf y (by omega)
  | n + 1, hn, y, hy => by
    have hk : n < k0_t3_loop.trips := by rw [trips3]; omega
    rw [G5_succ (k := ⟨n, hk⟩)]
    refine read_step (e := .fp8e4m3) arg5.view _ _ (K5 x) ?_ y ?_
    · exact pc5_spec c i arg2 harg2 arg3 harg3 arg4 harg4 arg5 harg5 arg6 harg6 arg7 harg7 arg8 harg8 hX hT g ⟨n, hk⟩
    by_cases h : (y 0).val < 128 * g.val + 2 * n
    · exact .inl (G5_at g f hf n (by omega) y h)
    · exact .inr (pc5_cov arg3 hX hT g ⟨n, hk⟩ _ _ _ y (by show 128 * g.val + 2 * n ≤ _; omega) (by show _ < 128 * g.val + 2 * n + 2; omega))

theorem H5_at (f : BufTy.Contents (Elt Ideal) arg5.view.ty) : ∀ n ≤ 6, ∀ y : S768x2x8x128.Idx, (y 0).val < 128 * n →
      arg5.view.read (Elt Ideal) (H5 c i arg2 harg2 arg3 harg3 arg4 harg4 arg5 harg5 arg6 harg6 arg7 harg7 arg8 harg8 X f n) y = K5 x y
  | 0, _, y, hy => absurd hy (by omega)
  | n + 1, hn, y, hy => by
    have hk : n < k0_t1_loop.trips := by rw [trips1]; omega
    rw [H5_succ (k := ⟨n, hk⟩), trips3]
    exact G5_at c i arg2 harg2 arg3 harg3 arg4 harg4 arg5 harg5 arg6 harg6 arg7 harg7 arg8 harg8 hX hT ⟨n, hk⟩ _
      (H5_at f n (by omega)) 64 le_rfl y (by show _ < 128 * n + 2 * 64; omega)

/-- the scales, -/
theorem H6_at (f : BufTy.Contents (Elt Ideal) arg6.view.ty) : ∀ n ≤ 6, ∀ y : S6x8x256.Idx, (y 0).val < n →
      arg6.view.read (Elt Ideal) (H6 c i arg2 harg2 arg3 harg3 arg4 harg4 arg5 harg5 arg6 harg6 arg7 harg7 arg8 harg8 X f n) y = K6 x y
  | 0, _, y, hy => absurd hy (by omega)
  | n + 1, hn, y, hy => by
    have hk : n < k0_t1_loop.trips := by rw [trips1]; omega
    rw [H6_succ (k := ⟨n, hk⟩)]
    refine read_step (e := .f32) arg6.view _ _ (K6 x) ?_ y ?_
    · exact pc6_spec c i arg2 harg2 arg3 harg3 arg4 harg4 arg5 harg5 arg6 harg6 arg7 harg7 arg8 harg8 hX hT ⟨n, hk⟩
    by_cases h : (y 0).val < n
    · exact .inl (H6_at f n (by omega) y h)
    · exact .inr (pc6_cov c i arg2 harg2 arg3 harg3 arg4 harg4 arg5 harg5 arg6 harg6 arg7 harg7 arg8 harg8 hX hT ⟨n, hk⟩ y (by show _ = n; omega))

/-- and the dequantised scratch. -/
theorem G8_at (g : Fin k0_t1_loop.trips) (f : BufTy.Contents (Elt Ideal) arg8.view.ty)
    (hf : ∀ y : S6208x2x128.Idx, (y 0).val % 388 < 64 * g.val → arg8.view.read (Elt Ideal) f y = K8 x y) :
    ∀ n ≤ 64, ∀ y : S6208x2x128.Idx, (y 0).val % 388 < 64 * g.val + n →
      arg8.view.read (Elt Ideal) (G8 arg3 arg8 X g (w200 (amax c i arg2 harg2 arg3 harg3 arg4 harg4 arg5 harg5 arg6 harg6 arg7 harg7 arg8 harg8 X g))
          (w202 (amax c i arg2 harg2 arg3 harg3 arg4 harg4 arg5 harg5 arg6 harg6 arg7 harg7 arg8 harg8 X g)) w203 f n) y = K8 x y
  | 0, _, y, hy => hf y (by omega)
  | n + 1, hn, y, hy => by
    have hk : n < k0_t3_loop.trips := by rw [trips3]; omega
    rw [G8_succ (k := ⟨n, hk⟩)]
    refine read_step (e := .bf16) arg8.view _ _ (K8 x) ?_ y ?_
    · exact pc8_spec c i arg2 harg2 arg3 harg3 arg4 harg4 arg5 harg5 arg6 harg6 arg7 harg7 arg8 harg8 hX hT g ⟨n, hk⟩
    by_cases h : (y 0).val % 388 < 64 * g.val + n
    · exact .inl (G8_at g f hf n (by omega) y h)
    · exact .inr (pc8_cov arg3 hX hT g ⟨n, hk⟩ _ _ _ y (by show _ = 64 * g.val + n; omega))

theorem H8_at (f : BufTy.Contents (Elt Ideal) arg8.view.ty) : ∀ n ≤ 6, ∀ y : S6208x2x128.Idx, (y 0).val % 388 < 64 * n →
      arg8.view.read (Elt Ideal) (H8 c i arg2 harg2 arg3 harg3 arg4 harg4 arg5 harg5 arg6 harg6 arg7 harg7 arg8 harg8 X f n) y = K8 x y
  | 0, _, y, hy => absurd hy (by omega)
  | n + 1, hn, y, hy => by
    have hk : n < k0_t1_loop.trips := by rw [trips1]; omega
    rw [H8_succ (k := ⟨n, hk⟩), trips3]
    exact G8_at c i arg2 harg2 arg3 harg3 arg4 harg4 arg5 harg5 arg6 harg6 arg7 harg7 arg8 harg8 hX hT ⟨n, hk⟩ _
      (H8_at f n (by omega)) 64 le_rfl y (by show _ < 64 * n + 64; omega)

end
end Cert.Proof.KernelIdeal.Run
-- ==== Proof.AccValue.lean ====
/- One chunk's products: what the body stores into the accumulator and, at the last chunk, into the output. -/
module

public import proofs.«01_k».proof.Proof.RunBody
public import proofs.«01_k».proof.Proof.LoopValue

@[expose] public section

set_option maxRecDepth 16384

noncomputable section

namespace Cert.Proof.KernelIdeal.Run

open Cert.KernelIdeal Cert.KernelIdeal.Gen
open Idealize.ShloMosaic Idealize.ShloMosaic.TcCoe Idealize.ShloMosaic.Tactic

/-- An entry of a chunk's dequantised columns, by row and half of the tile. -/
def colAt (v w : FVec Ideal S384x2x128 .bf16) (d : Fin 768) (t : Fin 256) : EReal :=
  if h : t.val < 128 then v (ix3 ⟨d.val / 2, by omega⟩ ⟨d.val % 2, by omega⟩ ⟨t.val, h⟩)
  else w (ix3 ⟨d.val / 2, by omega⟩ ⟨d.val % 2, by omega⟩ ⟨t.val - 128, by omega⟩)

theorem first_chunk : ∀ j : Fin 9, Scalar.cmpi .eq (BitVec.ofNat 32 j.val) 0#32 = 1#1 ↔ j.val = 0 := by decide +kernel

theorem cond1_iff (i : grid0.Coords) : k0_cond1 i = 1#1 ↔ (i 1).val = 8 := by
  have h : ∀ j : Fin 9, Scalar.cmpi .ne (Scalar.extui (Scalar.cmpi .eq (BitVec.ofNat 32 j.val) 8#32) : BitVec 32) 0#32 = 1#1 ↔ j.val = 8 := by
    decide +kernel
  exact h (i 1)

theorem off9_eq (i : grid0.Coords) : k0_off9 i = ![0, 768 * (i 1).val] := by
  have h : ∀ j : Fin 9, (Scalar.indexCast (Scalar.muli (BitVec.ofNat 32 j.val) 768#32) : Index).toNat = 768 * j.val := by decide +kernel
  have := h (i 1)
  unfold k0_off9
  dsimp only
  rw [this]

theorem pay41_at (i : grid0.Coords) (v4 : Vec Ideal S1280x768 .bf16) (v w : FVec Ideal S384x2x128 .bf16) (a : Vec Ideal S1x1280x256 .f32)
    (z : Fin 1) (o : Fin 1280) (t : Fin 256) : k0_pay41 i v4 v w a (ix3 z o t)
      = if (i 1).val = 0 then ∑ d : Fin 768, (v4 (ix2 o d) : EReal) * colAt v w d t
        else (a (ix3 0 o t) : EReal) + ∑ d : Fin 768, (v4 (ix2 o d) : EReal) * colAt v w d t := by
  have hs : (fun d : Fin 768 => (v4 (ix2 o d) : EReal) * colAt v w d t) = fun d : Fin 768 => (v4 (ix2 o d) : EReal) *
      (if h : t.val < 128 then (if d.val % 2 = 0 then v (ix3 ⟨d.val / 2, by omega⟩ 0 ⟨t.val, h⟩) else v (ix3 ⟨d.val / 2, by omega⟩ 1 ⟨t.val, h⟩))
       else (if d.val % 2 = 0 then w (ix3 ⟨d.val / 2, by omega⟩ 0 ⟨t.val - 128, by omega⟩) else w (ix3 ⟨d.val / 2, by omega⟩ 1 ⟨t.val - 128, by omega⟩))) := by
    funext d
    congr 1
    unfold colAt
    by_cases h2 : d.val % 2 = 0
    · have e : (⟨d.val % 2, by omega⟩ : Fin 2) = 0 := Fin.ext h2
      simp only [e, if_pos h2]
    · have e : (⟨d.val % 2, by omega⟩ : Fin 2) = 1 := Fin.ext (by show d.val % 2 = 1; omega)
      simp only [e, if_neg h2]
  rw [hs]
  pointwise [k0_pay41]
  rw [Scalar.select_def]
  by_cases h0 : (i 1).val = 0
  · exact (if_pos ((first_chunk (i 1)).2 h0)).trans (if_pos h0).symm
  · exact (if_neg (mt (first_chunk (i 1)).1 h0)).trans (if_neg h0).symm

section
variable (i : grid0.Coords) (arg2 : Memref sig .tc .vmem S1280x6912 .bf16) (arg7 : Memref sig .tc .vmem S8x1280x256 .f32)
  (arg8 : Memref sig .tc .vmem S6208x2x128 .bf16) (W : BufTy.Contents (Elt Ideal) arg2.view.ty)
  (f7 : BufTy.Contents (Elt Ideal) arg7.view.ty) (h : BufTy.Contents (Elt Ideal) arg8.view.ty)

theorem P1_eq : P1 i arg2 arg7 arg8 W f7 h = k0_pay41 i (wk i arg2 W) (cols arg8 h 3104 inb_S6208x2x128_S384x2x128_3104_0_0) (cols arg8 h 4656 inb_S6208x2x128_S384x2x128_4656_0_0)
  (accRow arg7 f7 1 inb_S8x1280x256_S1x1280x256_1_0_0) := rfl
theorem P2_eq : P2 i arg2 arg7 arg8 W f7 h = k0_pay41 i (wk i arg2 W) (cols arg8 h 388 inb_S6208x2x128_S384x2x128_388_0_0) (cols arg8 h 1940 inb_S6208x2x128_S384x2x128_1940_0_0)
  (accRow arg7 f7 2 inb_S8x1280x256_S1x1280x256_2_0_0) := rfl
theorem P3_eq : P3 i arg2 arg7 arg8 W f7 h = k0_pay41 i (wk i arg2 W) (cols arg8 h 3492 inb_S6208x2x128_S384x2x128_3492_0_0) (cols arg8 h 5044 inb_S6208x2x128_S384x2x128_5044_0_0)
  (accRow arg7 f7 3 inb_S8x1280x256_S1x1280x256_3_0_0) := rfl
theorem P4_eq : P4 i arg2 arg7 arg8 W f7 h = k0_pay41 i (wk i arg2 W) (cols arg8 h 776 inb_S6208x2x128_S384x2x128_776_0_0) (cols arg8 h 2328 inb_S6208x2x128_S384x2x128_2328_0_0)
  (accRow arg7 f7 4 inb_S8x1280x256_S1x1280x256_4_0_0) := rfl
theorem P5_eq : P5 i arg2 arg7 arg8 W f7 h = k0_pay41 i (wk i arg2 W) (cols arg8 h 3880 inb_S6208x2x128_S384x2x128_3880_0_0) (cols arg8 h 5432 inb_S6208x2x128_S384x2x128_5432_0_0)
  (accRow arg7 f7 5 inb_S8x1280x256_S1x1280x256_5_0_0) := rfl
theorem P6_eq : P6 i arg2 arg7 arg8 W f7 h = k0_pay41 i (wk i arg2 W) (cols arg8 h 1164 inb_S6208x2x128_S384x2x128_1164_0_0) (cols arg8 h 2716 inb_S6208x2x128_S384x2x128_2716_0_0)
  (accRow arg7 f7 6 inb_S8x1280x256_S1x1280x256_6_0_0) := rfl
theorem P7_eq : P7 i arg2 arg7 arg8 W f7 h = k0_pay41 i (wk i arg2 W) (cols arg8 h 4268 inb_S6208x2x128_S384x2x128_4268_0_0) (cols arg8 h 5820 inb_S6208x2x128_S384x2x128_5820_0_0)
  (accRow arg7 f7 7 inb_S8x1280x256_S1x1280x256_7_0_0) := rfl

variable (w : ℕ → ℕ → EReal) (x : ℕ → ℕ → ℕ → EReal)

/-- The products of one chunk, -/
def chunk (b o t : ℕ) : EReal := ∑ d : Fin 768, w o (768 * (i 1).val + d.val) * xd x d.val (t / 128 * 8 + b) (t % 128)

/-- and the accumulator after it. -/
def K7 (y : S8x1280x256.Idx) : EReal :=
  if (i 1).val = 0 then chunk i w x (y 0).val (y 1).val (y 2).val
  else (arg7.view.read (Elt Ideal) f7 y : EReal) + chunk i w x (y 0).val (y 1).val (y 2).val

variable {W h w x}
  (hW : ∀ (o : Fin 1280) (d : Fin 6912), arg2.view.read (Elt Ideal) W (ix2 o d) = w o.val d.val)
  (hh : ∀ y : S6208x2x128.Idx, (y 0).val % 388 < 384 → arg8.view.read (Elt Ideal) h y = K8 x y)
include hW hh

theorem wk_at (o : Fin 1280) (d : Fin 768) : wk i arg2 W (ix2 o d) = w o.val (768 * (i 1).val + d.val) := by
  have hi : (i 1).val < 9 := (i 1).isLt
  have hb : 768 * (i 1).val + d.val < 6912 := by omega
  rw [← hW o ⟨768 * (i 1).val + d.val, hb⟩]
  unfold wk
  rw [View.readAt_apply]
  congr 1
  funext q
  apply Fin.ext
  match q with
  | ⟨0, _⟩ =>
    have h0 : k0_off9 i 0 = 0 := congrFun (off9_eq i) 0
    show k0_off9 i 0 + 1 * o.val = o.val
    omega
  | ⟨1, _⟩ =>
    have h0 : k0_off9 i 1 = 768 * (i 1).val := congrFun (off9_eq i) 1
    show k0_off9 i 1 + 1 * d.val = 768 * (i 1).val + d.val
    omega

theorem cols_at (m o : ℕ) (hm : m < 16) (ho : o = m * 388) (ib) (d : Fin 768) (l : Fin 128) :
    cols arg8 h o ib (ix3 ⟨d.val / 2, by omega⟩ ⟨d.val % 2, by omega⟩ l) = xd x d.val (2 * (m % 8) + m / 8) l.val := by
  subst ho
  unfold cols
  rw [View.readAt_apply, hh]
  · show xd x (2 * ((m * 388 + 1 * (d.val / 2)) % 388) + (0 + 1 * (d.val % 2))) (2 * ((m * 388 + 1 * (d.val / 2)) / 388 % 8) + (m * 388 + 1 * (d.val / 2)) / 388 / 8) (0 + 1 * l.val) = _
    have e1 : 2 * ((m * 388 + 1 * (d.val / 2)) % 388) + (0 + 1 * (d.val % 2)) = d.val := by omega
    have e2 : (m * 388 + 1 * (d.val / 2)) / 388 = m := by omega
    have e3 : 0 + 1 * l.val = l.val := by omega
    rw [e1, e2, e3]
  · show (m * 388 + 1 * (d.val / 2)) % 388 < 384
    omega

theorem acc_at (b m oL oH : ℕ) (hb : b < 8) (hm : m = b % 2 * 8 + b / 2) (hL : oL = m * 388) (hH : oH = (m + 4) * 388) (ibL) (ibH) (ibA)
    (y : S1x1280x256.Idx) : k0_pay41 i (wk i arg2 W) (cols arg8 h oL ibL) (cols arg8 h oH ibH) (accRow arg7 f7 b ibA) y
      = K7 i arg7 f7 w x ((Rect.unit (s := S8x1280x256) ![b, 0, 0] S1x1280x256.size ibA).emb y) := by
  obtain ⟨z, o, t, rfl⟩ : ∃ (z : Fin 1) (o : Fin 1280) (t : Fin 256), y = ix3 z o t := ⟨y 0, y 1, y 2, eq_ix3 y⟩
  have hz : z = 0 := Fin.ext (by omega)
  subst hz
  rw [pay41_at]
  have hs : (∑ d : Fin 768, (wk i arg2 W (ix2 o d) : EReal) * colAt (cols arg8 h oL ibL) (cols arg8 h oH ibH) d t) = chunk i w x b o.val t.val := by
    unfold chunk
    refine Finset.sum_congr rfl fun d _ => ?_
    rw [wk_at i arg2 arg8 hW hh]
    congr 1
    unfold colAt
    by_cases ht : t.val < 128
    · rw [dif_pos ht, cols_at arg2 arg8 hW hh m oL (by omega) hL ibL]
      have e1 : 2 * (m % 8) + m / 8 = t.val / 128 * 8 + b := by omega
      have e2 : t.val % 128 = t.val := by omega
      rw [e1, e2]
    · rw [dif_neg ht, cols_at arg2 arg8 hW hh (m + 4) oH (by omega) hH ibH]
      have e1 : 2 * ((m + 4) % 8) + (m + 4) / 8 = t.val / 128 * 8 + b := by omega
      have e2 : t.val % 128 = t.val - 128 := by omega
      rw [e1, e2]
  rw [hs]
  unfold K7
  show _ = if (i 1).val = 0 then chunk i w x (b + 1 * 0) (0 + 1 * o.val) (0 + 1 * t.val)
    else _ + chunk i w x (b + 1 * 0) (0 + 1 * o.val) (0 + 1 * t.val)
  have e0 : b + 1 * 0 = b := by omega
  have e1 : 0 + 1 * o.val = o.val := by omega
  have e2 : 0 + 1 * t.val = t.val := by omega
  rw [e0, e1, e2]
  rfl

theorem pc7_spec : ∀ p ∈ pc7 i arg2 arg7 arg8 W f7 h, ∀ y : p.1.shape.Idx, p.2 y = K7 i arg7 f7 w x (p.1.emb y) := by
  intro p hp
  simp only [pc7, List.mem_cons, List.not_mem_nil, or_false] at hp
  rcases hp with rfl | rfl | rfl | rfl | rfl | rfl | rfl | rfl
  · exact fun y => (congrFun (P7_eq i arg2 arg7 arg8 W f7 h) y).trans (acc_at i arg2 arg7 arg8 f7 hW hh 7 11 4268 5820 (by omega) (by omega) (by omega) (by omega) _ _ _ y)
  · exact fun y => (congrFun (P6_eq i arg2 arg7 arg8 W f7 h) y).trans (acc_at i arg2 arg7 arg8 f7 hW hh 6 3 1164 2716 (by omega) (by omega) (by omega) (by omega) _ _ _ y)
  · exact fun y => (congrFun (P5_eq i arg2 arg7 arg8 W f7 h) y).trans (acc_at i arg2 arg7 arg8 f7 hW hh 5 10 3880 5432 (by omega) (by omega) (by omega) (by omega) _ _ _ y)
  · exact fun y => (congrFun (P4_eq i arg2 arg7 arg8 W f7 h) y).trans (acc_at i arg2 arg7 arg8 f7 hW hh 4 2 776 2328 (by omega) (by omega) (by omega) (by omega) _ _ _ y)
  · exact fun y => (congrFun (P3_eq i arg2 arg7 arg8 W f7 h) y).trans (acc_at i arg2 arg7 arg8 f7 hW hh 3 9 3492 5044 (by omega) (by omega) (by omega) (by omega) _ _ _ y)
  · exact fun y => (congrFun (P2_eq i arg2 arg7 arg8 W f7 h) y).trans (acc_at i arg2 arg7 arg8 f7 hW hh 2 1 388 1940 (by omega) (by omega) (by omega) (by omega) _ _ _ y)
  · exact fun y => (congrFun (P1_eq i arg2 arg7 arg8 W f7 h) y).trans (acc_at i arg2 arg7 arg8 f7 hW hh 1 8 3104 4656 (by omega) (by omega) (by omega) (by omega) _ _ _ y)
  · exact fun y => (acc_at i arg2 arg7 arg8 f7 hW hh 0 0 0 1552 (by omega) (by omega) (by omega) (by omega) _ _ _ y)

omit hW hh in
theorem mem_row7 (b : ℕ) (ib) (y : S8x1280x256.Idx) (hb : (y 0).val = b) : y ∈ (Rect.unit (s := S8x1280x256) ![b, 0, 0] S1x1280x256.size ib).set := by
  rw [LoadRect.mem_set]
  intro q
  match q with
  | ⟨0, _⟩ => exact ⟨0, by show 0 < 1; omega, by show (y 0).val = b + 1 * 0; omega⟩
  | ⟨1, _⟩ => exact ⟨(y 1).val, (y 1).isLt, by show (y 1).val = 0 + 1 * _; omega⟩
  | ⟨2, _⟩ => exact ⟨(y 2).val, (y 2).isLt, by show (y 2).val = 0 + 1 * _; omega⟩

omit hW hh in
theorem pc7_cov (y : S8x1280x256.Idx) : ∃ p ∈ pc7 (F := Ideal) i arg2 arg7 arg8 W f7 h, y ∈ p.1.set := by
  have hy : (y 0).val < 8 := (y 0).isLt
  simp only [pc7, List.mem_cons, List.not_mem_nil, or_false, exists_eq_or_imp, exists_eq_left]
  rcases (by omega : (y 0).val = 0 ∨ (y 0).val = 1 ∨ (y 0).val = 2 ∨ (y 0).val = 3 ∨ (y 0).val = 4 ∨ (y 0).val = 5 ∨ (y 0).val = 6 ∨ (y 0).val = 7)
    with h | h | h | h | h | h | h | h
  · exact .inr (.inr (.inr (.inr (.inr (.inr (.inr (mem_row7 0 _ y h)))))))
  · exact .inr (.inr (.inr (.inr (.inr (.inr (.inl (mem_row7 1 _ y h)))))))
  · exact .inr (.inr (.inr (.inr (.inr (.inl (mem_row7 2 _ y h))))))
  · exact .inr (.inr (.inr (.inr (.inl (mem_row7 3 _ y h)))))
  · exact .inr (.inr (.inr (.inl (mem_row7 4 _ y h))))
  · exact .inr (.inr (.inl (mem_row7 5 _ y h)))
  · exact .inr (.inl (mem_row7 6 _ y h))
  · exact .inl (mem_row7 7 _ y h)

/-- The accumulator after the body. -/
theorem acc_after (y : S8x1280x256.Idx) :
    arg7.view.read (Elt Ideal) (arg7.view.writes (Elt Ideal) f7 (pc7 i arg2 arg7 arg8 W f7 h)) y = K7 i arg7 f7 w x y :=
  View.read_writes_apply_of_pieces _ _ (K7 i arg7 f7 w x) _ (pc7_spec i arg2 arg7 arg8 f7 hW hh) y (pc7_cov i arg2 arg7 arg8 f7 y)

theorem newRow_at (b : Fin 8) (ib) (o : Fin 1280) (t : Fin 256) :
    newRow i arg2 arg7 arg8 W f7 h b.val ib (ix3 0 o t) = K7 i arg7 f7 w x (ix3 b o t) := by
  unfold newRow
  rw [View.readCov_eq_canon']
  refine (View.canon_apply_of_pieces (K7 i arg7 f7 w x) _ (pc7_spec i arg2 arg7 arg8 f7 hW hh) _ (pc7_cov i arg2 arg7 arg8 f7 _)).trans ?_
  congr 1
  funext q
  apply Fin.ext
  match q with
  | ⟨0, _⟩ => show b.val + 1 * 0 = b.val; omega
  | ⟨1, _⟩ => show 0 + 1 * o.val = o.val; omega
  | ⟨2, _⟩ => show 0 + 1 * t.val = t.val; omega

/-- What the output holds after the last chunk of a tile. -/
def K4 (y : S8x256x1280.Idx) : EReal := K7 i arg7 f7 w x (ix3 (y 0) (y 2) (y 1))

omit hW hh in
theorem pay27_at (v : Vec Ideal S1x1280x256 .f32) (z : Fin 1) (t : Fin 256) (o : Fin 1280) : k0_pay27 v (ix3 z t o) = v (ix3 0 o t) := by
  pointwise [k0_pay27]

omit hW hh in
theorem mem_row4 (b : ℕ) (ib) (y : S8x256x1280.Idx) (hb : (y 0).val = b) : y ∈ (Rect.unit (s := S8x256x1280) ![b, 0, 0] S1x256x1280.size ib).set := by
  rw [LoadRect.mem_set]
  intro q
  match q with
  | ⟨0, _⟩ => exact ⟨0, by show 0 < 1; omega, by show (y 0).val = b + 1 * 0; omega⟩
  | ⟨1, _⟩ => exact ⟨(y 1).val, (y 1).isLt, by show (y 1).val = 0 + 1 * _; omega⟩
  | ⟨2, _⟩ => exact ⟨(y 2).val, (y 2).isLt, by show (y 2).val = 0 + 1 * _; omega⟩

theorem out_at (b : Fin 8) (ib) (ib') (y : S1x256x1280.Idx) :
    k0_pay27 (newRow i arg2 arg7 arg8 W f7 h b.val ib) y = K4 i arg7 f7 (w := w) (x := x) ((Rect.unit (s := S8x256x1280) ![b.val, 0, 0] S1x256x1280.size ib').emb y) := by
  obtain ⟨z, t, o, rfl⟩ : ∃ (z : Fin 1) (t : Fin 256) (o : Fin 1280), y = ix3 z t o := ⟨y 0, y 1, y 2, eq_ix3 y⟩
  rw [pay27_at, newRow_at i arg2 arg7 arg8 f7 hW hh b]
  unfold K4
  congr 1
  funext q
  apply Fin.ext
  match q with
  | ⟨0, _⟩ => show b.val = b.val + 1 * z.val; omega
  | ⟨1, _⟩ => show o.val = 0 + 1 * o.val; omega
  | ⟨2, _⟩ => show t.val = 0 + 1 * t.val; omega

theorem pc4_spec : ∀ p ∈ pc4 i arg2 arg7 arg8 W f7 h, ∀ y : p.1.shape.Idx, p.2 y = K4 i arg7 f7 (w := w) (x := x) (p.1.emb y) := by
  intro p hp
  simp only [pc4, List.mem_cons, List.not_mem_nil, or_false] at hp
  rcases hp with rfl | rfl | rfl | rfl | rfl | rfl | rfl | rfl
  · exact fun y => out_at i arg2 arg7 arg8 f7 hW hh 7 _ inb_S8x256x1280_S1x256x1280_7_0_0 y
  · exact fun y => out_at i arg2 arg7 arg8 f7 hW hh 6 _ inb_S8x256x1280_S1x256x1280_6_0_0 y
  · exact fun y => out_at i arg2 arg7 arg8 f7 hW hh 5 _ inb_S8x256x1280_S1x256x1280_5_0_0 y
  · exact fun y => out_at i arg2 arg7 arg8 f7 hW hh 4 _ inb_S8x256x1280_S1x256x1280_4_0_0 y
  · exact fun y => out_at i arg2 arg7 arg8 f7 hW hh 3 _ inb_S8x256x1280_S1x256x1280_3_0_0 y
  · exact fun y => out_at i arg2 arg7 arg8 f7 hW hh 2 _ inb_S8x256x1280_S1x256x1280_2_0_0 y
  · exact fun y => out_at i arg2 arg7 arg8 f7 hW hh 1 _ inb_S8x256x1280_S1x256x1280_1_0_0 y
  · exact fun y => out_at i arg2 arg7 arg8 f7 hW hh 0 _ inb_S8x256x1280_S1x256x1280_0_0_0 y

omit hW hh in
theorem pc4_cov (y : S8x256x1280.Idx) : ∃ p ∈ pc4 (F := Ideal) i arg2 arg7 arg8 W f7 h, y ∈ p.1.set := by
  have hy : (y 0).val < 8 := (y 0).isLt
  simp only [pc4, List.mem_cons, List.not_mem_nil, or_false, exists_eq_or_imp, exists_eq_left]
  rcases (by omega : (y 0).val = 0 ∨ (y 0).val = 1 ∨ (y 0).val = 2 ∨ (y 0).val = 3 ∨ (y 0).val = 4 ∨ (y 0).val = 5 ∨ (y 0).val = 6 ∨ (y 0).val = 7)
    with h | h | h | h | h | h | h | h
  · exact .inr (.inr (.inr (.inr (.inr (.inr (.inr (mem_row4 0 _ y h)))))))
  · exact .inr (.inr (.inr (.inr (.inr (.inr (.inl (mem_row4 1 _ y h)))))))
  · exact .inr (.inr (.inr (.inr (.inr (.inl (mem_row4 2 _ y h))))))
  · exact .inr (.inr (.inr (.inr (.inl (mem_row4 3 _ y h)))))
  · exact .inr (.inr (.inr (.inl (mem_row4 4 _ y h))))
  · exact .inr (.inr (.inl (mem_row4 5 _ y h)))
  · exact .inr (.inl (mem_row4 6 _ y h))
  · exact .inl (mem_row4 7 _ y h)

/-- The output's buffer after the last chunk of a tile. -/
theorem out_after (arg4 : Memref sig .tc .vmem S8x256x1280 .bf16) (f4 : BufTy.Contents (Elt Ideal) arg4.view.ty) (hi : (i 1).val = 8)
    (y : S8x256x1280.Idx) : arg4.view.read (Elt Ideal) (E4 i arg2 arg7 arg8 W f7 h arg4 f4) y = K4 i arg7 f7 (w := w) (x := x) y := by
  unfold E4
  rw [if_pos ((cond1_iff i).2 hi)]
  exact View.read_writes_apply_of_pieces _ _ (K4 i arg7 f7) _ (pc4_spec i arg2 arg7 arg8 f7 hW hh) y (pc4_cov i arg2 arg7 arg8 f7 y)

end
end Cert.Proof.KernelIdeal.Run
-- ==== Proof.Blocks.lean ====
/- The blocks that the body finds at a point, over the whole arrays: the weights as they are, and of the activations the
   rows of one chunk and the tokens of one tile. -/
module

public import proofs.«01_k».proof.Proof.Gen.KernelIdeal.Frame
public import proofs.«01_k».proof.Proof.Spec
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Proof

open Idealize.ShloMosaic

/-- A chunk of 768 rows and a tile of 256 tokens cut out of the activations, the batch rows of its two halves one after the
    other. -/
def cut (x : ℕ → ℕ → ℕ → EReal) (k T : ℕ) : ℕ → ℕ → ℕ → EReal := fun d r l => x (768 * k + d) (r % 8) ((2 * T + r / 8) * 128 + l)

theorem mag_cut (x : ℕ → ℕ → ℕ → EReal) (k T g r l : ℕ) : mag (cut x k T) g r l = mag x (6 * k + g) (r % 8) ((2 * T + r / 8) * 128 + l) := by
  unfold mag cut
  have h : ∀ d, 768 * k + (128 * g + d) = 128 * (6 * k + g) + d := fun d => by omega
  simp only [h]

theorem scale_cut (x : ℕ → ℕ → ℕ → EReal) (k T g r l : ℕ) :
    scale (cut x k T) g r l = scale x (6 * k + g) (r % 8) ((2 * T + r / 8) * 128 + l) := by
  unfold scale; rw [mag_cut]

theorem code_cut (x : ℕ → ℕ → ℕ → EReal) (k T d r l : ℕ) :
    code (cut x k T) d r l = code x (768 * k + d) (r % 8) ((2 * T + r / 8) * 128 + l) := by
  unfold code; rw [mag_cut]
  have h : (768 * k + d) / 128 = 6 * k + d / 128 := by omega
  rw [h]; rfl

theorem xd_cut (x : ℕ → ℕ → ℕ → EReal) (k T d r l : ℕ) :
    xd (cut x k T) d r l = xd x (768 * k + d) (r % 8) ((2 * T + r / 8) * 128 + l) := by
  unfold xd; rw [code_cut, scale_cut]
  have h : (768 * k + d) / 128 = 6 * k + d / 128 := by omega
  rw [h]

theorem tame_cut (x : ℕ → ℕ → ℕ → EReal) (h : Tame x 54 8 4096) (k T : ℕ) (hk : k < 9) (hT : T < 16) : Tame (cut x k T) 6 16 128 :=
  fun g hg r hr l hl => by
    rw [mag_cut]
    exact h _ (by omega) _ (by omega) _ (by omega)

/-- The products summed over the first `n` chunks. -/
def part (w : ℕ → ℕ → EReal) (x : ℕ → ℕ → ℕ → EReal) (n o b s : ℕ) : EReal :=
  ∑ j ∈ Finset.range n, ∑ d : Fin 768, w o (768 * j + d.val) * xd x (768 * j + d.val) b s

theorem part_zero (w : ℕ → ℕ → EReal) (x : ℕ → ℕ → ℕ → EReal) (o b s : ℕ) : part w x 0 o b s = 0 := rfl

theorem part_succ (w : ℕ → ℕ → EReal) (x : ℕ → ℕ → ℕ → EReal) (n o b s : ℕ) :
    part w x (n + 1) o b s = part w x n o b s + ∑ d : Fin 768, w o (768 * n + d.val) * xd x (768 * n + d.val) b s :=
  Finset.sum_range_succ _ _

end Cert.Proof

namespace Cert.Proof.KernelIdeal

open Cert.KernelIdeal Cert.KernelIdeal.Gen
open Idealize.ShloMosaic Idealize.ShloMosaic.TcCoe

variable (m : (ℓ : Loc nD τ sig) → Buf (Elt Ideal) ℓ) (c : Dev nD)

/-- The weights given, at numbers, -/
def gw (o d : ℕ) : EReal :=
  if h : o < 1280 ∧ d < 6912 then (m ((c : Thread nD τ).loc main_arg0) : S1280x6912.Idx → EReal) (ix2 ⟨o, h.1⟩ ⟨d, h.2⟩) else 0

/-- and the activations. -/
def gx (d b s : ℕ) : EReal :=
  if h : d < 6912 ∧ b < 8 ∧ s < 4096 then
    (m ((c : Thread nD τ).loc main_arg1) : S6912x8x4096.Idx → EReal) (ix3 ⟨d, h.1⟩ ⟨b, h.2.1⟩ ⟨s, h.2.2⟩) else 0

theorem coords0 (t : Fin cfg0.N) : ((grid0.coords t) 0).val = t.val / 9 :=
  (by decide +kernel : ∀ t : Fin grid0.N, ((grid0.coords t) 0).val = t.val / 9) t
theorem coords1 (t : Fin cfg0.N) : ((grid0.coords t) 1).val = t.val % 9 :=
  (by decide +kernel : ∀ t : Fin grid0.N, ((grid0.coords t) 1).val = t.val % 9) t

theorem index0 : ∀ t : Fin cfg0.N, win0_0.index t = ![0, 0] := (by decide +kernel : ∀ t : Fin grid0.N, win0_0.index t = ![0, 0])
theorem index1 : ∀ t : Fin cfg0.N, win0_1.index t = ![t.val % 9, t.val / 9, 0] :=
  (by decide +kernel : ∀ t : Fin grid0.N, win0_1.index t = ![t.val % 9, t.val / 9, 0])
theorem index2 : ∀ t : Fin cfg0.N, win0_2.index t = ![0, t.val / 9, 0] :=
  (by decide +kernel : ∀ t : Fin grid0.N, win0_2.index t = ![0, t.val / 9, 0])
theorem index3 : ∀ t : Fin cfg0.N, win0_3.index t = ![t.val % 9, t.val / 9, 0, 0] :=
  (by decide +kernel : ∀ t : Fin grid0.N, win0_3.index t = ![t.val % 9, t.val / 9, 0, 0])
theorem index4 : ∀ t : Fin cfg0.N, win0_4.index t = ![t.val % 9, 0, t.val / 9] :=
  (by decide +kernel : ∀ t : Fin grid0.N, win0_4.index t = ![t.val % 9, 0, t.val / 9])

/-- The relaid activations: 128 tokens of one batch row to a row. -/
theorem V_main_v2 (d : Fin 6912) (q : Fin 256) (l : Fin 128) :
    (V m c main_v2 : S6912x256x128.Idx → EReal) (ix3 d q l) = gx m c d.val (q.val % 8) (q.val / 8 * 128 + l.val) := by
  unfold V
  after_reads_at
  unfold gx
  rw [dif_pos ⟨d.isLt, by omega, by omega⟩]

theorem iblk0_at (t : Fin cfg0.N) (o : Fin 1280) (d : Fin 6912) : (iblk m c 0 t : S1280x6912.Idx → EReal) (ix2 o d) = gw m c o.val d.val := by
  have e : (win0_0.blk t).view.emb (ix2 o d) = (ix2 o d : S1280x6912.Idx) := by
    funext a
    match a with
    | ⟨0, _⟩ => apply Fin.ext; blk_simp [index0 t]
    | ⟨1, _⟩ => apply Fin.ext; blk_simp [index0 t]
  blk_simp [iblk]
  rw [e, V_main_arg0]
  unfold gw
  rw [dif_pos ⟨o.isLt, d.isLt⟩]

theorem iblk1_at (t : Fin cfg0.N) (d : Fin 768) (r : Fin 16) (l : Fin 128) :
    (iblk m c 1 t : S768x16x128.Idx → EReal) (ix3 d r l) = cut (gx m c) (t.val % 9) (t.val / 9) d.val r.val l.val := by
  have ht : t.val < 144 := lt_of_lt_of_eq t.isLt N_0
  have e : (win0_1.blk t).view.emb (ix3 d r l)
      = (ix3 ⟨768 * (t.val % 9) + d.val, by omega⟩ ⟨16 * (t.val / 9) + r.val, by omega⟩ l : S6912x256x128.Idx) := by
    funext a
    match a with
    | ⟨0, _⟩ => apply Fin.ext; blk_simp [index1 t]; show t.val % 9 * 768 + d.val = 768 * (t.val % 9) + d.val; omega
    | ⟨1, _⟩ => apply Fin.ext; blk_simp [index1 t]; show t.val / 9 * 16 + r.val = 16 * (t.val / 9) + r.val; omega
    | ⟨2, _⟩ => apply Fin.ext; blk_simp [index1 t]
  blk_simp [iblk]
  rw [e]
  refine (V_main_v2 m c _ _ _).trans ?_
  unfold cut
  have e1 : (16 * (t.val / 9) + r.val) % 8 = r.val % 8 := by omega
  have e2 : (16 * (t.val / 9) + r.val) / 8 = 2 * (t.val / 9) + r.val / 8 := by omega
  show gx m c (768 * (t.val % 9) + d.val) ((16 * (t.val / 9) + r.val) % 8) ((16 * (t.val / 9) + r.val) / 8 * 128 + l.val) = _
  rw [e1, e2]

end Cert.Proof.KernelIdeal
-- ==== Proof.IdealRun.lean ====
/- The run of the kernel at the real numbers with its results followed: the accumulator holds the sum over the chunks done
   so far of the current tile, and every block written back is named. -/
module

public import proofs.«01_k».proof.Proof.AccValue
public import proofs.«01_k».proof.Proof.Blocks
public import Idealize.ShloMosaic.Lib.Pipeline.DatRel
public import Idealize.ShloMosaic.Lib.Pipeline.ArrRel

@[expose] public section

set_option maxRecDepth 16384

noncomputable section

namespace Cert.Proof.KernelIdeal.Value

open Cert.KernelIdeal Cert.KernelIdeal.Gen Cert.Proof.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel cellOf)

local notation "𝕄" => MT nD τ sig Unit (Elt Ideal) ℕ (UR sig nD τ) ℕ

variable (m : (ℓ : Loc nD τ sig) → Buf (Elt Ideal) ℓ) (ρ : Dev nD → PrngReg)

/-- Some contents of a buffer. -/
def some_ {s : Shape} {e : EltTy} (c : Dev nD) (a : Memref sig .tc .vmem s e) : sProp 𝕄 :=
  iprop(∃ f : BufTy.Contents (Elt Ideal) a.view.ty, a.view.loc (c : Thread nD τ) ↦[a.view.set]{fullShare} f)

/-- The two scratch buffers and the generator register, at the region's ends. -/
theorem ΦA_eq (c : Dev nD) : (Pipeline.ΦA spec0 c : sProp 𝕄)
    = iprop((some_ c (Memref.whole cc0_scratch0) ∗ some_ c (Memref.whole cc0_scratch1)) ∗ ∃ r, prngReg c r) := by
  unfold Pipeline.ΦA
  rw [scopedRest0_eq]
  unfold some_
  rw [View.set_whole, View.set_whole]

/-- What the accumulator holds before the `n`th point: within a tile, the sum over the chunks done. -/
def AccHolds (c : Dev nD) (n : ℕ) (f : BufTy.Contents (Elt Ideal) (Memref.whole cc0_scratch0 : Memref sig .tc .vmem S8x1280x256 .f32).view.ty) : Prop :=
  n % 9 ≠ 0 → ∀ y : S8x1280x256.Idx, ((Memref.whole cc0_scratch0 : Memref sig .tc .vmem S8x1280x256 .f32).view.read (Elt Ideal) f y : EReal)
    = part (gw m c) (gx m c) (n % 9) (y 1).val (y 0).val (n / 9 * 256 + (y 2).val)

/-- The invariant before the `n`th point. -/
def Φ (c : Dev nD) (n : ℕ) : sProp 𝕄 :=
  iprop(((∃ f, ⌜AccHolds m c n f⌝ ∗ (Memref.whole cc0_scratch0 : Memref sig .tc .vmem S8x1280x256 .f32).view.loc (c : Thread nD τ)
      ↦[(Memref.whole cc0_scratch0 : Memref sig .tc .vmem S8x1280x256 .f32).view.set]{fullShare} f)
    ∗ some_ c (Memref.whole cc0_scratch1)) ∗ ∃ r, prngReg c r)

/-- The results are held to a predicate, the inputs followed. -/
abbrev fgt : Fin cfg0.W → Bool := fun w => match w with
  | ⟨0, _⟩ => false
  | ⟨1, _⟩ => false
  | _ => true

/-- What the output's block holds after the last chunk of a tile, -/
def R2 (c : Dev nD) (n : ℕ) (X : S8x256x1280.Idx → EReal) : Prop :=
  n % 9 = 8 → ∀ y, X y = part (gw m c) (gx m c) 9 (y 2).val (y 0).val (n / 9 * 256 + (y 1).val)
/-- the codes', -/
def R3 (c : Dev nD) (n : ℕ) (X : S768x2x8x128.Idx → EReal) : Prop :=
  ∀ y, X y = code (gx m c) (768 * (n % 9) + (y 0).val) (y 2).val ((2 * (n / 9) + (y 1).val) * 128 + (y 3).val)
/-- and the scales'. -/
def R4 (c : Dev nD) (n : ℕ) (X : S6x8x256.Idx → EReal) : Prop :=
  ∀ y, X y = scale (gx m c) (6 * (n % 9) + (y 0).val) (y 1).val (n / 9 * 256 + (y 2).val)

/-- What each result's block is held to. -/
def Rl (c : Dev nD) : (w : Fin cfg0.W) → Fin cfg0.N → ((cfg0.win w).block.Idx → Elt Ideal (cfg0.win w).elt) → Prop := fun w t => match w with
  | ⟨0, _⟩ => fun _ => True
  | ⟨1, _⟩ => fun _ => True
  | ⟨2, _⟩ => R2 m c t.val
  | ⟨3, _⟩ => R3 m c t.val
  | ⟨4, _⟩ => R4 m c t.val

/-- The proof data: the arrays as the region finds them, each input's block left in place, the accumulator followed. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fun _ => Classical.choice inferInstance
    | ⟨3, _⟩ => fun _ => Classical.choice inferInstance
    | ⟨4, _⟩ => fun _ => Classical.choice inferInstance
  Φ t := Φ m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

theorem defs₀_row (t : Fin cfg0.N) :
    defs₀ (F := Ideal) .tc cfg0.body (cfg0.bodyArgs t (cfg0.slots t)) = bodyAt0 t := by
  unfold defs₀; rw [Defs.onTc_tc]

section
variable (c : Dev nD) (t : Fin cfg0.N) (hT : Tame (gx m c) 54 8 4096)
  {arg2 : Memref sig .tc .vmem S1280x6912 .bf16} {harg2 : arg2.IsWhole}
  {arg3 : Memref sig .tc .vmem S768x16x128 .bf16} {harg3 : arg3.IsWhole}
  {arg4 : Memref sig .tc .vmem S8x256x1280 .bf16} {harg4 : arg4.IsWhole}
  {arg5 : Memref sig .tc .vmem S768x2x8x128 .fp8e4m3} {harg5 : arg5.IsWhole}
  {arg6 : Memref sig .tc .vmem S6x8x256 .f32} {harg6 : arg6.IsWhole}
  {arg7 : Memref sig .tc .vmem S8x1280x256 .f32} {harg7 : arg7.IsWhole}
  {arg8 : Memref sig .tc .vmem S6208x2x128 .bf16} {harg8 : arg8.IsWhole}
  {W : BufTy.Contents (Elt Ideal) arg2.view.ty} {X : BufTy.Contents (Elt Ideal) arg3.view.ty}
  (hW : ∀ y, arg2.view.read (Elt Ideal) W y = iblk m c 0 t y) (hX : ∀ y, arg3.view.read (Elt Ideal) X y = iblk m c 1 t y)
  (f4 : BufTy.Contents (Elt Ideal) arg4.view.ty) (f5 : BufTy.Contents (Elt Ideal) arg5.view.ty)
  (f6 : BufTy.Contents (Elt Ideal) arg6.view.ty) (f7 : BufTy.Contents (Elt Ideal) arg7.view.ty)
  (f8 : BufTy.Contents (Elt Ideal) arg8.view.ty)

theorem lt_N : t.val < 144 := lt_of_lt_of_eq t.isLt N_0

include hX in
theorem holds : Run.Holds arg3 X (cut (gx m c) (t.val % 9) (t.val / 9)) := fun d r l => (hX _).trans (iblk1_at m c t d r l)

include hW in
theorem holdsW (o : Fin 1280) (d : Fin 6912) : arg2.view.read (Elt Ideal) W (ix2 o d) = gw m c o.val d.val := (hW _).trans (iblk0_at m c t o d)

include hT in
theorem tame_at : Tame (cut (gx m c) (t.val % 9) (t.val / 9)) 6 16 128 :=
  tame_cut _ hT _ _ (by omega) (by have := lt_N t; omega)

include hT hX in
theorem h8_at (y : S6208x2x128.Idx) (hy : (y 0).val % 388 < 384) :
    arg8.view.read (Elt Ideal) (Run.H8 c (grid0.coords t) arg2 harg2 arg3 harg3 arg4 harg4 arg5 harg5 arg6 harg6 arg7 harg7 arg8 harg8 X f8 Run.T1) y = Run.K8 (cut (gx m c) (t.val % 9) (t.val / 9)) y :=
  Run.H8_at c _ arg2 harg2 arg3 harg3 arg4 harg4 arg5 harg5 arg6 harg6 arg7 harg7 arg8 harg8 (holds m c t hX) (tame_at m c t hT) f8 6 le_rfl y hy

include hT hX in
theorem codes_at : R3 m c t.val (arg5.view.read (Elt Ideal)
    (Run.H5 c (grid0.coords t) arg2 harg2 arg3 harg3 arg4 harg4 arg5 harg5 arg6 harg6 arg7 harg7 arg8 harg8 X f5 Run.T1)) := fun y => by
  have h1 : (y 0).val < 768 := (y 0).isLt
  have h2 : (y 2).val < 8 := (y 2).isLt
  refine (Run.H5_at c _ arg2 harg2 arg3 harg3 arg4 harg4 arg5 harg5 arg6 harg6 arg7 harg7 arg8 harg8 (holds m c t hX) (tame_at m c t hT) f5 6 le_rfl y
    (by omega)).trans ?_
  unfold Run.K5
  rw [code_cut]
  have e1 : ((y 1).val * 8 + (y 2).val) % 8 = (y 2).val := by omega
  have e2 : ((y 1).val * 8 + (y 2).val) / 8 = (y 1).val := by omega
  rw [e1, e2]

include hT hX in
theorem scales_at : R4 m c t.val (arg6.view.read (Elt Ideal)
    (Run.H6 c (grid0.coords t) arg2 harg2 arg3 harg3 arg4 harg4 arg5 harg5 arg6 harg6 arg7 harg7 arg8 harg8 X f6 Run.T1)) := fun y => by
  have h1 : (y 0).val < 6 := (y 0).isLt
  have h2 : (y 1).val < 8 := (y 1).isLt
  refine (Run.H6_at c _ arg2 harg2 arg3 harg3 arg4 harg4 arg5 harg5 arg6 harg6 arg7 harg7 arg8 harg8 (holds m c t hX) (tame_at m c t hT) f6 6 le_rfl y
    h1).trans ?_
  unfold Run.K6
  rw [scale_cut]
  have e1 : ((y 2).val / 128 * 8 + (y 1).val) % 8 = (y 1).val := by omega
  have e2 : (2 * (t.val / 9) + ((y 2).val / 128 * 8 + (y 1).val) / 8) * 128 + (y 2).val % 128 = t.val / 9 * 256 + (y 2).val := by omega
  rw [e1, e2]

/-- One point's products added to the sum before it. -/
theorem acc_step (hf7 : t.val % 9 ≠ 0 → ∀ y : S8x1280x256.Idx, (arg7.view.read (Elt Ideal) f7 y : EReal)
      = part (gw m c) (gx m c) (t.val % 9) (y 1).val (y 0).val (t.val / 9 * 256 + (y 2).val)) (y : S8x1280x256.Idx) :
    Run.K7 (grid0.coords t) arg7 f7 (gw m c) (cut (gx m c) (t.val % 9) (t.val / 9)) y
      = part (gw m c) (gx m c) (t.val % 9 + 1) (y 1).val (y 0).val (t.val / 9 * 256 + (y 2).val) := by
  have hb : (y 0).val < 8 := (y 0).isLt
  have hc : Run.chunk (grid0.coords t) (gw m c) (cut (gx m c) (t.val % 9) (t.val / 9)) (y 0).val (y 1).val (y 2).val
      = ∑ d : Fin 768, gw m c (y 1).val (768 * (t.val % 9) + d.val) * xd (gx m c) (768 * (t.val % 9) + d.val) (y 0).val (t.val / 9 * 256 + (y 2).val) := by
    unfold Run.chunk
    rw [coords1]
    refine Finset.sum_congr rfl fun d _ => ?_
    rw [xd_cut]
    have e1 : ((y 2).val / 128 * 8 + (y 0).val) % 8 = (y 0).val := by omega
    have e2 : (2 * (t.val / 9) + ((y 2).val / 128 * 8 + (y 0).val) / 8) * 128 + (y 2).val % 128 = t.val / 9 * 256 + (y 2).val := by omega
    rw [e1, e2]
  unfold Run.K7
  rw [hc, part_succ, coords1]
  by_cases h0 : t.val % 9 = 0
  · rw [if_pos h0, h0, part_zero, zero_add]
  · rw [if_neg h0, hf7 h0]

include hT hX hW in
theorem out_at (hf7 : t.val % 9 ≠ 0 → ∀ y : S8x1280x256.Idx, (arg7.view.read (Elt Ideal) f7 y : EReal)
      = part (gw m c) (gx m c) (t.val % 9) (y 1).val (y 0).val (t.val / 9 * 256 + (y 2).val)) :
    R2 m c t.val (arg4.view.read (Elt Ideal) (Run.E4 (grid0.coords t) arg2 arg7 arg8 W f7 (Run.H8 c (grid0.coords t) arg2 harg2 arg3 harg3 arg4 harg4 arg5 harg5 arg6 harg6 arg7 harg7 arg8 harg8 X f8 Run.T1) arg4 f4)) := fun h y => by
  refine (Run.out_after (grid0.coords t) arg2 arg7 arg8 f7 (holdsW m c t hW) (h8_at m c t hT hX f8) arg4 f4 ((coords1 t).trans h) y).trans ?_
  unfold Run.K4
  rw [acc_step m c t f7 hf7, h]
  rfl

include hT hX hW in
theorem acc_at (hf7 : t.val % 9 ≠ 0 → ∀ y : S8x1280x256.Idx, (arg7.view.read (Elt Ideal) f7 y : EReal)
      = part (gw m c) (gx m c) (t.val % 9) (y 1).val (y 0).val (t.val / 9 * 256 + (y 2).val)) (h : (t.val + 1) % 9 ≠ 0) (y : S8x1280x256.Idx) :
    (arg7.view.read (Elt Ideal) (arg7.view.writes (Elt Ideal) f7 (Run.pc7 (grid0.coords t) arg2 arg7 arg8 W f7 (Run.H8 c (grid0.coords t) arg2 harg2 arg3 harg3 arg4 harg4 arg5 harg5 arg6 harg6 arg7 harg7 arg8 harg8 X f8 Run.T1))) y : EReal)
      = part (gw m c) (gx m c) ((t.val + 1) % 9) (y 1).val (y 0).val ((t.val + 1) / 9 * 256 + (y 2).val) := by
  refine (Run.acc_after (grid0.coords t) arg2 arg7 arg8 f7 (holdsW m c t hW) (h8_at m c t hT hX f8) y).trans ?_
  rw [acc_step m c t f7 hf7]
  have e1 : (t.val + 1) % 9 = t.val % 9 + 1 := by omega
  have e2 : (t.val + 1) / 9 = t.val / 9 := by omega
  rw [e1, e2]
end

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ Y, ⌜((dats m 0 c).toRRel fgt (Rl m c)).Finds 2 t Y⌝ ∗ owns (c : Thread nD τ) (st0_2 t) fullShare Y)
    ∗ (∃ Y, ⌜((dats m 0 c).toRRel fgt (Rl m c)).Finds 3 t Y⌝ ∗ owns (c : Thread nD τ) (st0_3 t) fullShare Y)
    ∗ (∃ Y, ⌜((dats m 0 c).toRRel fgt (Rl m c)).Finds 4 t Y⌝ ∗ owns (c : Thread nD τ) (st0_4 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ X, ⌜R2 m c t.val X⌝ ∗ owns (c : Thread nD τ) (st0_2 t) fullShare X)
    ∗ (∃ X, ⌜R3 m c t.val X⌝ ∗ owns (c : Thread nD τ) (st0_3 t) fullShare X)
    ∗ (∃ X, ⌜R4 m c t.val X⌝ ∗ owns (c : Thread nD τ) (st0_4 t) fullShare X))

/-- The body at any point. -/
theorem sound_body (c : Dev nD) (hT : Tame (gx m c) 54 8 4096) (t : Fin cfg0.N) :
    bodyPre m c t ⊢ wp frame (wpE (defs₀ (F := Ideal)) Run.𝒱₀ c none) Set.univ (bodyAt0 t) (fun _ => bodyPost m c t) := by
  unfold bodyPre bodyPost bodyAt0
  simp only [before0_0, before0_1]
  rw [show (dats m 0 c).Φ t.succ = Φ m c (t.val + 1) from rfl, show (dats m 0 c).Φ t.castSucc = Φ m c t.val from rfl,
    show (dats m 0 c).owesAt () t.succ = (dats m 0 c).owesAt () t.castSucc from rfl, after0_0, after0_1]
  unfold Φ some_
  iintro ⟨⟨⟨⟨%f7, %hf7, H7⟩, ⟨%f8, H8⟩⟩, Hr⟩, Ho, ⟨%d0, H0⟩, ⟨%d1, H1⟩, ⟨%d2, -, H2⟩, ⟨%d3, -, H3⟩, ⟨%d4, -, H4⟩⟩
  unfold owns
  icases H0 with ⟨%f0, %hf0, H0⟩
  icases H1 with ⟨%f1, %hf1, H1⟩
  icases H2 with ⟨%f2, -, H2⟩
  icases H3 with ⟨%f3, -, H3⟩
  icases H4 with ⟨%f4, -, H4⟩
  iapply (wp_wand_r Idealize.ShloMosaic.frame (wpE (defs₀ (F := Ideal)) Run.𝒱₀ (c : Thread nD τ) none) Set.univ)
  isplitl [H0 H1 H2 H3 H4 H7 H8]
  · iapply (Run.sound c (grid0.coords t) _ _ _ _ _ _ _ _ _ _ _ _ _ _ f0 f1 f2 f3 f4 f7 f8)
    isplitl [H0]; · iexact H0
    isplitl [H1]; · iexact H1
    isplitl [H2]; · iexact H2
    isplitl [H3]; · iexact H3
    isplitl [H4]; · iexact H4
    isplitl [H7]; · iexact H7
    iexact H8
  iintro %_ ⟨H0, H1, H2, H3, H4, H7, H8⟩
  isplitl [H7 H8 Hr]
  · isplitl [H7 H8]
    · isplitl [H7]
      · iexists _; isplitr; swap; · iexact H7
        ipureintro
        exact acc_at m c t hT (congrFun hf0) (congrFun hf1) f7 f8 hf7
      iexists _; iexact H8
    · iexact Hr
  isplitl [Ho]; · iexact Ho
  isplitl [H0]
  · iexists f0; isplitr; · ipureintro; exact hf0
    iexact H0
  isplitl [H1]
  · iexists f1; isplitr; · ipureintro; exact hf1
    iexact H1
  isplitl [H2]
  · iexists _; isplitr; swap
    · iexists _; isplitr; swap; · iexact H2
      ipureintro; rfl
    ipureintro
    exact out_at m c t hT (congrFun hf0) (congrFun hf1) f2 f7 f8 hf7
  isplitl [H3]
  · iexists _; isplitr; swap
    · iexists _; isplitr; swap; · iexact H3
      ipureintro; rfl
    ipureintro
    exact codes_at m c t hT (congrFun hf1) f3
  iexists _; isplitr; swap
  · iexists _; isplitr; swap; · iexact H4
    ipureintro; rfl
  ipureintro
  exact scales_at m c t hT (congrFun hf1) f4

/-- The library's body obligation, the results held to what they are. -/
theorem body_obligation (c : Dev nD) (hT : Tame (gx m c) 54 8 4096) :
    BodyObligationRel (dats m 0 c) (defs₀ (F := Ideal)) Run.𝒱₀ () Set.univ fgt (Rl m c) := fun t => by
  rw [bigSep_W0, bigSep_W0, defs₀_row]
  exact triple_restated (sound_body m c hT t) rfl .rfl fun _ => .rfl

/-- The invariant at the region's ends. -/
theorem entered (c : Dev nD) : (Pipeline.ΦA spec0 c : sProp 𝕄) ⊢ Φ m c 0 := by
  rw [ΦA_eq]
  unfold Φ some_
  iintro ⟨⟨⟨%f, H⟩, H8⟩, Hr⟩
  isplitl [H H8]
  · isplitl [H]
    · iexists f; isplitr
      · ipureintro; exact fun h => absurd rfl h
      iexact H
    iexact H8
  iexact Hr

theorem left (c : Dev nD) (n : ℕ) : Φ m c n ⊢ (Pipeline.ΦA spec0 c : sProp 𝕄) := by
  rw [ΦA_eq]
  unfold Φ some_
  iintro ⟨⟨⟨%f, -, H⟩, H8⟩, Hr⟩
  isplitl [H H8]
  · isplitl [H]
    · iexists f; iexact H
    iexact H8
  iexact Hr

set_option backward.isDefEq.respectTransparency.types false in
set_option maxHeartbeats 800000 in
/-- The run of the whole program. -/
theorem run_main (hT : ∀ c, Tame (gx m c) 54 8 4096) : θ_run defs (onTc (τ := τ) (main (F := Ideal))) (s₀ m ρ)
    (fun r => Pipeline.RDat.FramePost cfg0 (fun c => (dats m 0 c).toRRel fgt (Rl m c)) (V m) r ∧ r.2.sem = fun _ => 0) :=
  Pipeline.RDat.θ_run_frame_track (Q' := _) cfgs (0 : Fin 1) (kit := launch0) defs₀ Run.𝒱₀ (fun c => (dats m 0 c).toRRel fgt (Rl m c)) m ρ main
    (hbody := fun c => (body_obligation m c (hT c)).toRRel) (hshare := fun c => (dats m 0 c).share_full fun _ => rfl)
    (howed := fun _ _ => rfl) (V := V m) (hmain := hmain m Run.𝒱₀) (hA := A_eq m) (hin := entered m) (hout := fun c => left m c _)

end Cert.Proof.KernelIdeal.Value
-- ==== Proof.IdealValue.lean ====
/- What the kernel's three results hold at the end, entry by entry. -/
module

public import proofs.«01_k».proof.Proof.IdealRun

@[expose] public section

set_option maxRecDepth 16384

noncomputable section

namespace Cert.Proof

open Idealize.ShloMosaic

/-- The product of the weights' row and the activations' column. -/
def dotv (w : ℕ → ℕ → EReal) (x : ℕ → ℕ → ℕ → EReal) (o b s : ℕ) : EReal := ∑ d ∈ Finset.range 6912, w o d * xd x d b s

/-- The sum over all the chunks is the whole sum. -/
theorem part_eq (w : ℕ → ℕ → EReal) (x : ℕ → ℕ → ℕ → EReal) (o b s : ℕ) : part w x 9 o b s = dotv w x o b s := by
  have h : ∀ n, part w x n o b s = ∑ d ∈ Finset.range (768 * n), w o d * xd x d b s := by
    intro n
    induction n with
    | zero => rfl
    | succ n ih =>
      rw [part_succ, ih, Nat.mul_succ, Finset.sum_range_add]
      exact congrArg _ (Fin.sum_univ_eq_sum_range (fun d => w o (768 * n + d) * xd x (768 * n + d) b s) 768)
  exact h 9

end Cert.Proof

namespace Cert.Proof.KernelIdeal.Value

open Cert.KernelIdeal Cert.KernelIdeal.Gen Cert.Proof.KernelIdeal
open Idealize.ShloMosaic Idealize.ShloMosaic.TcCoe Idealize.SL Idealize.SL.Sem

variable (m : (ℓ : Loc nD τ sig) → Buf (Elt Ideal) ℓ) (ρ : Dev nD → PrngReg)

/-- The output, -/
def G2 (c : Dev nD) (j : S8x4096x1280.Idx) : EReal := dotv (gw m c) (gx m c) (j 2).val (j 0).val (j 1).val
/-- the codes, 128 tokens of one batch row to a row, -/
def G3 (c : Dev nD) (j : S6912x32x8x128.Idx) : EReal := code (gx m c) (j 0).val (j 2).val ((j 1).val * 128 + (j 3).val)
/-- and the scales. -/
def G4 (c : Dev nD) (j : S54x8x4096.Idx) : EReal := scale (gx m c) (j 0).val (j 1).val (j 2).val

section
variable (c : Dev nD) (after : (w' : Fin cfg0.W) → Fin cfg0.N → (cfg0.win w').block.Idx → Elt Ideal (cfg0.win w').elt)
  (hL : ∀ (w : Fin cfg0.W) (u : Fin cfg0.N), (cfg0.win w).flush u = true → ((dats m 0 c).toRRel fgt (Rl m c)).Leaves w u (after w u))
include hL

theorem final2 : (((dats m 0 c).toRRel fgt (Rl m c)).withAfter after).arrAt 2 cfg0.N = G2 m c := by
  refine Pipeline.Dat.arrAt_eq_of_covers _ 2 _ (by decide +kernel) fun t hf y => ?_
  have h : R2 m c t.val (after 2 t) := (dats m 0 c).toRRel_leaves (w := 2) rfl (hL 2 t hf)
  have h' := h ((flush0_2 t).1 hf)
  blk_simp
  refine (h' y).trans ?_
  unfold G2
  blk_simp [index2 t]
  rw [part_eq]

theorem final3 : (((dats m 0 c).toRRel fgt (Rl m c)).withAfter after).arrAt 3 cfg0.N = G3 m c := by
  refine Pipeline.Dat.arrAt_eq_of_covers _ 3 _ (by decide +kernel) fun t hf y => ?_
  have h : R3 m c t.val (after 3 t) := (dats m 0 c).toRRel_leaves (w := 3) rfl (hL 3 t hf)
  blk_simp
  refine (h y).trans ?_
  unfold G3
  blk_simp [index3 t]
  rw [Nat.mul_comm 768, Nat.mul_comm 2]

theorem final4 : (((dats m 0 c).toRRel fgt (Rl m c)).withAfter after).arrAt 4 cfg0.N = G4 m c := by
  refine Pipeline.Dat.arrAt_eq_of_covers _ 4 _ (by decide +kernel) fun t hf y => ?_
  have h : R4 m c t.val (after 4 t) := (dats m 0 c).toRRel_leaves (w := 4) rfl (hL 4 t hf)
  blk_simp
  refine (h y).trans ?_
  unfold G4
  blk_simp [index4 t]
  rw [Nat.mul_comm 6]
end

/-- The run: the three results in closed form, the arguments as launched, every counter at zero. -/
theorem value (hT : ∀ c, Tame (gx m c) 54 8 4096) : θ_run defs (onTc (τ := τ) (main (F := Ideal))) ⟨m, fun _ => 0, ρ⟩ (fun r =>
    ∀ c : Dev nD, r.2.mem ((c.tc : Thread nD τ).loc main_v3_0) = G2 m c ∧ r.2.mem ((c.tc : Thread nD τ).loc main_v3_1) = G3 m c
      ∧ r.2.mem ((c.tc : Thread nD τ).loc main_v3_2) = G4 m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    obtain ⟨after, hL, hA⟩ := h.1.exists_exact c
    refine ⟨(hA 2).trans (final2 m c after hL), (hA 3).trans (final3 m c after hL), (hA 4).trans (final4 m c after hL), ?_, ?_⟩
    · exact (Pipeline.RDat.FramePost.arr_in h.1 c 0 rfl).trans ((A_eq m c 0).trans (V_main_arg0 m c))
    · exact ((h.1 c).2 main_arg1 (Pipeline.mem_restRefs_of main_arg1 (by decide) (by decide))).trans (V_main_arg1 m c))
    (run_main m ρ hT)

end Cert.Proof.KernelIdeal.Value
-- ==== Proof.RefValue.lean ====
/- The reference's results, entry by entry. -/
module

public import proofs.«01_k».proof.Proof.RefRead
public import proofs.«01_k».proof.Proof.IdealValue

@[expose] public section

set_option maxRecDepth 16384

noncomputable section

namespace Cert.Proof

open Idealize.ShloMosaic

/-- Folding the maximum from the least value is the supremum. -/
theorem fold_sup {n : ℕ} (f : ℕ → EReal) : Finset.fold max (Ideal.ofBits .f32 0xFF800000#32) (fun d : Fin n => f d.val) Finset.univ = (Finset.range n).sup f := by
  have hb : Ideal.ofBits .f32 0xFF800000#32 = ⊥ := by simp [Ideal.ofBits, Ideal.ieee]
  rw [hb]
  have h1 : Finset.fold max ⊥ (fun d : Fin n => f d.val) Finset.univ = (Finset.univ : Finset (Fin n)).sup fun d => f d.val := rfl
  rw [h1]
  apply le_antisymm
  · exact Finset.sup_le fun d _ => Finset.le_sup (f := f) (Finset.mem_range.2 d.isLt)
  · exact Finset.sup_le fun d hd => Finset.le_sup (f := fun d : Fin n => f d.val) (Finset.mem_univ (⟨d, Finset.mem_range.1 hd⟩ : Fin n))

theorem pows_word : ∀ z : Fin 254, (IntOp.subi (BitVec.ofNat 32 z.val) 126#32).toInt = (z.val : ℤ) - 126 := by decide +kernel

theorem exp2_pw (z : ℤ) : Ideal.exp2 ((z : ℝ) : EReal) = pw z := by
  rw [Ideal.exp2_coe]
  unfold pw
  congr 1
  exact Real.rpow_intCast 2 z

open Classical in
/-- The largest power of two that is at most a normal value is that of its exponent. -/
theorem below_pw {t : EReal} (h : normal t) :
    ((Finset.range 254).sup fun z => if pw ((z : ℤ) - 126) ≤ t then pw ((z : ℤ) - 126) else 0) = pw (lg t) := by
  have hr := lg_range h
  apply le_antisymm
  · refine Finset.sup_le fun z _ => ?_
    by_cases hz : pw ((z : ℤ) - 126) ≤ t
    · rw [if_pos hz]; exact pw_le_pw.2 ((pw_le_iff h _).1 hz)
    · rw [if_neg hz]; exact (pw_pos _).le
  · have hz : (((lg t + 126).toNat : ℕ) : ℤ) - 126 = lg t := by omega
    have := Finset.le_sup (f := fun z : ℕ => if pw ((z : ℤ) - 126) ≤ t then pw ((z : ℤ) - 126) else 0)
      (Finset.mem_range.2 (by omega : (lg t + 126).toNat < 254))
    rwa [hz, if_pos (normal_lg h).1] at this

end Cert.Proof

namespace Cert.Proof.ReferenceIdeal

open Cert.ReferenceIdeal Cert.ReferenceIdeal.Gen
open Idealize.ShloMosaic Idealize.ShloMosaic.TcCoe

theorem mulf_at (a : FVec Ideal S54x8x4096 .f32) (c : Ideal .f32) (j : S54x8x4096.Idx) : mulf a (broadcast S54x8x4096 c) j = (a j : EReal) * c := rfl

section
variable {v : Vec Ideal S6912x8x4096 .bf16} {x : ℕ → ℕ → ℕ → EReal} (hx : ∀ (d : Fin 6912) (b : Fin 8) (s : Fin 4096), v (ix3 d b s) = x d.val b.val s.val)
include hx

/-- The largest magnitudes, -/
theorem mag_at (g : Fin 54) (b : Fin 8) (s : Fin 4096) : mags (k0_pay3 v) (ix3 g b s) = mag x g.val b.val s.val := by
  rw [mags_at]
  have h : ∀ d : Fin 128, (FloatOps.absf (k0_pay3 v (ix4 g d b s)) : EReal)
      = max (x (128 * g.val + d.val) b.val s.val) (-x (128 * g.val + d.val) b.val s.val) := fun d => by
    rw [pay3_at, hx]; rfl
  simp only [h]
  exact fold_sup (n := 128) fun d => max (x (128 * g.val + d) b.val s.val) (-x (128 * g.val + d) b.val s.val)

/-- the scales, -/
theorem pay4_at (g : Fin 54) (b : Fin 8) (s : Fin 4096) : k0_pay4 v (ix3 g b s) = scale x g.val b.val s.val := by
  obtain ⟨c0, -, -, -, -, -, -, c1⟩ := step_consts
  rw [pay4_eq, scales_at, mag_at hx]
  unfold scale sc
  have e0 : (Scalar.ofBits .f32 0x00800000#32 : Ideal .f32) = pw (-126) := c0
  have e1 : (Scalar.ofBits .f32 0x40000000#32 : Ideal .f32) = pw 1 := c1
  have e2 : (Scalar.ofBits .f32 0x3F800000#32 : Ideal .f32) = (1 : EReal) := Ideal.ofBits_one_f32
  have e3 : (Scalar.ofBits .f32 0x3B124925#32 : Ideal .f32) = c448 := rfl
  have e4 : (Scalar.ofBits .f32 0x7F7FFFFF#32 : Ideal .f32) = fmax := rfl
  have e5 : (Scalar.ofBits .f32 0x00000000#32 : Ideal .f32) = (0 : EReal) := Ideal.ofBits_zero .f32
  rw [e0, e1, e2, e3, e4, e5]
  by_cases h : normal (mag x g.val b.val s.val * c448)
  · rw [if_pos h, if_pos (show pw (-126) ≤ _ ∧ _ from h), below_at]
    have ht : mulf (mags (k0_pay3 v)) (broadcast S54x8x4096 c448) (ix3 g b s) = mag x g.val b.val s.val * c448 := by
      rw [mulf_at, mag_at hx]
    simp only [pows_at, pows_word, exp2_pw, ht]
    rw [fold_sup (n := 254) fun z => if pw ((z : ℤ) - 126) ≤ mag x g.val b.val s.val * c448 then pw ((z : ℤ) - 126) else 0,
      below_pw h, pw_mul]
    unfold ex
    rw [add_comm]
  · rw [if_neg h, if_neg (show ¬ (pw (-126) ≤ _ ∧ _) from h)]

/-- the codes -/
theorem pay5_at (g : Fin 54) (d : Fin 128) (b : Fin 8) (s : Fin 4096) : k0_pay5 v (ix4 g d b s) = code x (128 * g.val + d.val) b.val s.val := by
  rw [pay5_eq, codes_at, pay4_at hx, pay3_at, hx]
  have e2 : (Scalar.ofBits .f32 0x3F800000#32 : Ideal .f32) = (1 : EReal) := Ideal.ofBits_one_f32
  rw [e2]
  unfold scale code
  have : (128 * g.val + d.val) / 128 = g.val := by omega
  rw [div_sc, this]
  rfl

/-- and the dequantised values. -/
theorem pay6_eq (g : Fin 54) (d : Fin 128) (b : Fin 8) (s : Fin 4096) : k0_pay6 v (ix4 g d b s) = xd x (128 * g.val + d.val) b.val s.val := by
  rw [pay6_at, pay5_at hx, pay4_at hx]
  unfold xd
  have : (128 * g.val + d.val) / 128 = g.val := by omega
  rw [this]

/-- The codes as returned. -/
theorem res3_at (d : Fin 6912) (j : Fin 32) (b : Fin 8) (l : Fin 128) :
    k0_pay2 (k0_pay5 v) (ix4 d j b l) = code x d.val b.val (j.val * 128 + l.val) := by
  rw [pay2_at, pay5_at hx]
  have : 128 * (d.val / 128) + d.val % 128 = d.val := by omega
  show code x (128 * (d.val / 128) + d.val % 128) b.val (j.val * 128 + l.val) = _
  rw [this]

/-- The output. -/
theorem res2_at {u : Vec Ideal S1280x6912 .bf16} {w : ℕ → ℕ → EReal} (hw : ∀ (o : Fin 1280) (d : Fin 6912), u (ix2 o d) = w o.val d.val)
    (b : Fin 8) (s : Fin 4096) (o : Fin 1280) : k0_pay1 (k0_pay6 v) u (ix3 b s o) = dotv w x o.val b.val s.val := by
  rw [pay1_at]
  unfold dotv
  rw [← Fin.sum_univ_eq_sum_range (fun d => w o.val d * xd x d b.val s.val) 6912]
  refine Finset.sum_congr rfl fun d _ => ?_
  rw [pay6_eq hx, hw]
  have : 128 * (d.val / 128) + d.val % 128 = d.val := by omega
  show w o.val d.val * xd x (128 * (d.val / 128) + d.val % 128) b.val s.val = _
  rw [this]

end
end Cert.Proof.ReferenceIdeal
-- ==== Proof.Precondition.lean ====
/- The precondition keeps every group's scaled magnitude clear of the top of the exponent range: an activation is at most
   the largest finite bf16 number in magnitude, or infinite. -/
module

public import proofs.«01_k».proof.Defs
public import proofs.«01_k».proof.Proof.IdealValue
public import Idealize.ShloMosaic.Lib.ReduceAll

@[expose] public section

set_option maxRecDepth 16384

noncomputable section

namespace Cert.Proof

open Idealize.ShloMosaic Idealize.ShloMosaic.TcCoe

instance pre_facts : Cert.Pre_representable.Facts where
  bitsLt_bf16_f32 := by decide
  bcast_S_S6912x8x4096 := by decide
  reducesTo_S6912x8x4096_S_d0_1_2 := by decide
  h_S_ := by decide

/-- The largest finite bf16 number. -/
def bmax : EReal := Ideal.ofBits .f32 0x7F7F0000#32

theorem bmax_scaled : bmax * c448 < pw 126 := by
  have hb : bmax = ((255 * 2 ^ 120 : ℝ) : EReal) := by
    unfold bmax; simp [Ideal.ofBits, Ideal.ieee, -EReal.coe_mul]; norm_num
  have hc : c448 = ((9586981 / 2 ^ 32 : ℝ) : EReal) := by
    unfold c448; simp [Ideal.ofBits, Ideal.ieee, -EReal.coe_mul]; norm_num
  rw [hb, hc]
  unfold pw
  rw [← EReal.coe_mul, EReal.coe_lt_coe_iff]
  norm_num

theorem c448_pos : 0 < c448 := by
  have hc : c448 = ((9586981 / 2 ^ 32 : ℝ) : EReal) := by
    unfold c448; simp [Ideal.ofBits, Ideal.ieee, -EReal.coe_mul]; norm_num
  rw [hc]
  exact_mod_cast (by norm_num : (0 : ℝ) < 9586981 / 2 ^ 32)

/-- A group whose entries are each at most `bmax` in magnitude, or infinite, is clear of the top. -/
theorem tame_mag (x : ℕ → ℕ → ℕ → EReal) (g r l : ℕ)
    (h : ∀ d < 128, max (x (128 * g + d) r l) (-x (128 * g + d) r l) ≤ bmax ∨ max (x (128 * g + d) r l) (-x (128 * g + d) r l) = ⊤) :
    tame (mag x g r l * c448) := by
  by_cases hi : ∃ d < 128, max (x (128 * g + d) r l) (-x (128 * g + d) r l) = ⊤
  · obtain ⟨d, hd, e⟩ := hi
    right
    have : mag x g r l = ⊤ := top_le_iff.1 (e ▸ Finset.le_sup (f := fun d => max (x (128 * g + d) r l) (-x (128 * g + d) r l)) (Finset.mem_range.2 hd))
    rw [this, EReal.top_mul_of_pos c448_pos]
    exact lt_trans fmax_lt (by unfold pw; exact EReal.coe_lt_top _)
  · left
    have : mag x g r l ≤ bmax := Finset.sup_le fun d hd =>
      (h d (Finset.mem_range.1 hd)).resolve_right fun e => hi ⟨d, Finset.mem_range.1 hd, e⟩
    exact lt_of_le_of_lt (mul_le_mul_of_nonneg_right this c448_pos.le) bmax_scaled

instance : Subsingleton Cert.Pre_representable.S_.Idx := ⟨fun a b => funext fun q => q.elim0⟩

/-- What the precondition says of an entry. -/
theorem pre_entry (a0 : FVec Ideal Cert.Pre_representable.S1280x6912 .bf16) (a1 : FVec Ideal Cert.Pre_representable.S6912x8x4096 .bf16)
    (h : Cert.Pre_representable.fn (F := Ideal) a0 a1 = fun _ => 1#1) (i : Cert.Pre_representable.S6912x8x4096.Idx) :
    max (a1 i : EReal) (-(a1 i : EReal)) ≤ bmax ∨ max (a1 i : EReal) (-(a1 i : EReal)) = ⊤ := by
  have h1 := congrFun h (Shape.Idx.first (s := Cert.Pre_representable.S_) (by decide))
  have h2 := Host.reduce_andi_all _ _ _ _ _ h1 i
  have h3 : IntOp.ori (Ideal.cmp .ole (max (a1 i : EReal) (-(a1 i : EReal))) bmax)
      (Ideal.cmp .oeq (max (a1 i : EReal) (-(a1 i : EReal))) (Ideal.ofBits .f32 0x7F800000#32)) = 1#1 := h2
  have ht : Ideal.ofBits .f32 0x7F800000#32 = ⊤ := by simp [Ideal.ofBits, Ideal.ieee]
  rw [ht] at h3
  have key : ∀ p q : BitVec 1, IntOp.ori p q = 1#1 → p = 1#1 ∨ q = 1#1 := by decide
  rcases key _ _ h3 with e | e
  · exact .inl ((Ideal.cmp_ole_eq_one _ _).1 e)
  · exact .inr ((Ideal.cmp_oeq_eq_one _ _).1 e)

theorem tame_of_pre (m : (ℓ : Loc Cert.KernelIdeal.nD Cert.KernelIdeal.τ Cert.KernelIdeal.sig) → Buf (Elt Ideal) ℓ)
    (h : Cert.Pre_KernelIdeal_representable (hPre_representable := pre_facts) m) (c : Dev Cert.KernelIdeal.nD) :
    Tame (Cert.Proof.KernelIdeal.gx m c) 54 8 4096 := fun g hg r hr l hl => by
  refine tame_mag _ g r l fun d hd => ?_
  unfold Cert.Proof.KernelIdeal.gx
  rw [dif_pos ⟨by omega, hr, hl⟩]
  exact pre_entry _ _ (h c) _

end Cert.Proof
-- ==== Proof.RefRun.lean ====
/- The run of the reference: its three result arrays as functions of the arguments. The reference has one grid point and every
   window's block is its whole array, so the array after the run is the payload stored. -/
module

public import proofs.«01_k».proof.Proof.Gen.ReferenceIdeal.Frame
public import Idealize.ShloMosaic.Lib.Pipeline.Value

@[expose] public section

noncomputable section

namespace Cert.Proof.ReferenceIdeal.Run

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_2) = (dats m 0 c).arrAt 4 cfg0.N :=
  (h c).1 4

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S1280x6912.Idx) : ((cfg0.win 0).blk t).view.emb j = j := by
  obtain ⟨e0, e1⟩ := idx_zero0 t
  funext a; apply Fin.ext
  match a with
  | ⟨0, _⟩ => show win0_0.index t (0 : Fin 2) * 1280 + 1 * (j 0).val = (j 0).val; omega
  | ⟨1, _⟩ => show win0_0.index t (1 : Fin 2) * 6912 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S6912x8x4096.Idx) : ((cfg0.win 1).blk t).view.emb j = j := by
  obtain ⟨e0, e1, e2⟩ := idx_zero1 t
  funext a; apply Fin.ext
  match a with
  | ⟨0, _⟩ => show win0_1.index t (0 : Fin 3) * 6912 + 1 * (j 0).val = (j 0).val; omega
  | ⟨1, _⟩ => show win0_1.index t (1 : Fin 3) * 8 + 1 * (j 1).val = (j 1).val; omega
  | ⟨2, _⟩ => show win0_1.index t (2 : Fin 3) * 4096 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S8x4096x1280.Idx) : ((cfg0.win 2).blk t).view.emb j = j := by
  obtain ⟨e0, e1, e2⟩ := idx_zero2 t
  funext a; apply Fin.ext
  match a with
  | ⟨0, _⟩ => show win0_2.index t (0 : Fin 3) * 8 + 1 * (j 0).val = (j 0).val; omega
  | ⟨1, _⟩ => show win0_2.index t (1 : Fin 3) * 4096 + 1 * (j 1).val = (j 1).val; omega
  | ⟨2, _⟩ => show win0_2.index t (2 : Fin 3) * 1280 + 1 * (j 2).val = (j 2).val; omega

theorem hz3 : (![0, 0, 0, 0] : Fin 4 → Nat) = fun _ => 0 := funext fun a => by fin_cases a <;> rfl

/-- Window 3's block index at the one point is zero on every axis. -/
theorem idx_zero3 : ∀ t : Fin cfg0.N, win0_3.index t (0 : Fin 4) = 0 ∧ win0_3.index t (1 : Fin 4) = 0 ∧ win0_3.index t (2 : Fin 4) = 0 ∧ win0_3.index t (3 : Fin 4) = 0 :=
  (by decide +kernel : ∀ t : Fin grid0.N, _)

/-- An index of window 3's block is the same index of its array. -/
theorem emb3 (t : Fin cfg0.N) (j : S6912x32x8x128.Idx) : ((cfg0.win 3).blk t).view.emb j = j := by
  obtain ⟨e0, e1, e2, e3⟩ := idx_zero3 t
  funext a; apply Fin.ext
  match a with
  | ⟨0, _⟩ => show win0_3.index t (0 : Fin 4) * 6912 + 1 * (j 0).val = (j 0).val; omega
  | ⟨1, _⟩ => show win0_3.index t (1 : Fin 4) * 32 + 1 * (j 1).val = (j 1).val; omega
  | ⟨2, _⟩ => show win0_3.index t (2 : Fin 4) * 8 + 1 * (j 2).val = (j 2).val; omega
  | ⟨3, _⟩ => show win0_3.index t (3 : Fin 4) * 128 + 1 * (j 3).val = (j 3).val; omega

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S54x8x4096.Idx) : ((cfg0.win 4).blk t).view.emb j = j := by
  obtain ⟨e0, e1, e2⟩ := idx_zero4 t
  funext a; apply Fin.ext
  match a with
  | ⟨0, _⟩ => show win0_4.index t (0 : Fin 3) * 54 + 1 * (j 0).val = (j 0).val; omega
  | ⟨1, _⟩ => show win0_4.index t (1 : Fin 3) * 8 + 1 * (j 1).val = (j 1).val; omega
  | ⟨2, _⟩ => show win0_4.index t (2 : Fin 3) * 4096 + 1 * (j 2).val = (j 2).val; omega

/-! ### Output window 2: the array after the run -/

/-- What the window's array ends holding: `out0_2` applied to the argument arrays in place of the input blocks (a value that the
    frame states apart, `kK_payN a…`, keeps its loads inside its own definition). -/
abbrev G2 (a0 : Vec F S1280x6912 .bf16) (a1 : Vec F S6912x8x4096 .bf16) : Vec F S8x4096x1280 .bf16 :=
  k0_pay1 (k0_pay6 a1) a0

/-- A load of the whole of a block reads the block, and the one store through the whole rectangle leaves its payload. -/
theorem out2_eq (a0 : Vec F S1280x6912 .bf16) (a1 : Vec F S6912x8x4096 .bf16) : out0_2 (F := F) a0 a1 = G2 a0 a1 := by
  unfold out0_2
  rw [View.canon_unit_zero hz2, View.ld_unit_zero (S := S6912x8x4096) hz1 _ a1, View.ld_unit_zero (S := S1280x6912) hz0 _ a0]

/-- Cutting the point's block out of `X` and reading `X` through the block's view give the same. -/
theorem cut2_eq (t : Fin cfg0.N) (X : Vec F S8x4096x1280 .bf16) :
    (cfg0.win 2).cut (grid0.coords t) X = ((cfg0.win 2).blk t).view.read (Elt F) X := by
  funext j
  show X j = X (((cfg0.win 2).blk t).view.emb j)
  rw [emb2]

/-- WHAT THE POINT WRITES BACK is its block of `G2` of the argument arrays as the region finds them. -/
theorem flushed2_eq (c : Dev nD) (t : Fin cfg0.N) :
    (dats m 0 c).flushed 2 t = ((cfg0.win 2).blk t).view.read (Elt F) (G2 (V m c main_arg0) (V m c main_arg1)) := by
  show (cfg0.win 2).cut (grid0.coords t) ((dats m 0 c).after 2 t) = _
  rw [after0_2, out2_eq, iblk0_eq, iblk1_eq]
  exact cut2_eq t _

/-- Every index of the array is in the point's block. -/
theorem covered2 (i : S8x4096x1280.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- THE ARRAY after the run: `G2` of the argument arrays as launched. -/
theorem final2 (c : Dev nD) : (dats m 0 c).arrAt 2 cfg0.N = G2 (m ((c : Thread nD τ).loc main_arg0)) (m ((c : Thread nD τ).loc main_arg1)) :=
  ((dats m 0 c).arrAt_eq_of_cover 2 (G2 (V m c main_arg0) (V m c main_arg1)) (fun t _ => flushed2_eq m c t) covered2).trans (by rw [V_main_arg0, V_main_arg1])

/-! ### Output window 3: the array after the run -/

/-- What the window's array ends holding: `out0_3` applied to the argument arrays in place of the input blocks (a value that the
    frame states apart, `kK_payN a…`, keeps its loads inside its own definition). -/
abbrev G3 (a0 : Vec F S1280x6912 .bf16) (a1 : Vec F S6912x8x4096 .bf16) : Vec F S6912x32x8x128 .fp8e4m3 :=
  k0_pay2 (k0_pay5 a1)

/-- A load of the whole of a block reads the block, and the one store through the whole rectangle leaves its payload. -/
theorem out3_eq (a0 : Vec F S1280x6912 .bf16) (a1 : Vec F S6912x8x4096 .bf16) : out0_3 (F := F) a0 a1 = G3 a0 a1 := by
  unfold out0_3
  rw [View.canon_unit_zero hz3, View.ld_unit_zero (S := S6912x8x4096) hz1 _ a1]

/-- Cutting the point's block out of `X` and reading `X` through the block's view give the same. -/
theorem cut3_eq (t : Fin cfg0.N) (X : Vec F S6912x32x8x128 .fp8e4m3) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1)) := by
  show (cfg0.win 3).cut (grid0.coords t) ((dats m 0 c).after 3 t) = _
  rw [after0_3, out3_eq, iblk0_eq, iblk1_eq]
  exact cut3_eq t _

/-- Every index of the array is in the point's block. -/
theorem covered3 (i : S6912x32x8x128.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) :=
  ((dats m 0 c).arrAt_eq_of_cover 3 (G3 (V m c main_arg0) (V m c main_arg1)) (fun t _ => flushed3_eq m c t) covered3).trans (by rw [V_main_arg0, V_main_arg1])

/-! ### Output window 4: the array after the run -/

/-- What the window's array ends holding: `out0_4` applied to the argument arrays in place of the input blocks (a value that the
    frame states apart, `kK_payN a…`, keeps its loads inside its own definition). -/
abbrev G4 (a0 : Vec F S1280x6912 .bf16) (a1 : Vec F S6912x8x4096 .bf16) : Vec F S54x8x4096 .f32 :=
  k0_pay4 a1

/-- A load of the whole of a block reads the block, and the one store through the whole rectangle leaves its payload. -/
theorem out4_eq (a0 : Vec F S1280x6912 .bf16) (a1 : Vec F S6912x8x4096 .bf16) : out0_4 (F := F) a0 a1 = G4 a0 a1 := by
  unfold out0_4
  rw [View.canon_unit_zero hz4, View.ld_unit_zero (S := S6912x8x4096) hz1 _ a1]

/-- Cutting the point's block out of `X` and reading `X` through the block's view give the same. -/
theorem cut4_eq (t : Fin cfg0.N) (X : Vec F S54x8x4096 .f32) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1)) := by
  show (cfg0.win 4).cut (grid0.coords t) ((dats m 0 c).after 4 t) = _
  rw [after0_4, out4_eq, iblk0_eq, iblk1_eq]
  exact cut4_eq t _

/-- Every index of the array is in the point's block. -/
theorem covered4 (i : S54x8x4096.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) :=
  ((dats m 0 c).arrAt_eq_of_cover 4 (G4 (V m c main_arg0) (V m c main_arg1)) (fun t _ => flushed4_eq m c t) covered4).trans (by rw [V_main_arg0, V_main_arg1])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G2 (m ((c : Thread nD τ).loc main_arg0)) (m ((c : Thread nD τ).loc main_arg1))
      ∧ r.2.mem ((c : Thread nD τ).loc main_v0_1) = G3 (m ((c : Thread nD τ).loc main_arg0)) (m ((c : Thread nD τ).loc main_arg1))
      ∧ r.2.mem ((c : Thread nD τ).loc main_v0_2) = G4 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans (final2 m c),
      (post3 m r h c).trans (final3 m c),
      (post4 m r h c).trans (final4 m c),
      kept_main_arg0 m r h c,
      kept_main_arg1 m r h c⟩)
    (run_main m ρ)

end Cert.Proof.ReferenceIdeal.Run

end
-- ==== Proof.Equation.lean ====
/- The kernel and the reference compute the same three arrays. -/
module

public import proofs.«01_k».proof.Proof.RefValue
public import proofs.«01_k».proof.Proof.Precondition
public import proofs.«01_k».proof.Proof.RefRun

@[expose] public section

set_option maxRecDepth 16384

noncomputable section

namespace Cert.Proof

open Idealize.ShloMosaic Idealize.ShloMosaic.TcCoe

section
variable (m : (ℓ : Loc Cert.KernelIdeal.nD Cert.KernelIdeal.τ Cert.KernelIdeal.sig) → Buf (Elt Ideal) ℓ) (c : Dev Cert.KernelIdeal.nD)

/-- The activations as launched, by number. -/
theorem entries (d : Fin 6912) (b : Fin 8) (s : Fin 4096) :
    (m ((c.tc : Thread Cert.KernelIdeal.nD Cert.KernelIdeal.τ).loc Cert.KernelIdeal.main_arg1) : Cert.KernelIdeal.S6912x8x4096.Idx → EReal) (ix3 d b s)
      = KernelIdeal.gx m c d.val b.val s.val := by
  unfold KernelIdeal.gx
  rw [dif_pos ⟨d.isLt, b.isLt, s.isLt⟩]

/-- The weights as launched, by number. -/
theorem weights (o : Fin 1280) (d : Fin 6912) :
    (m ((c.tc : Thread Cert.KernelIdeal.nD Cert.KernelIdeal.τ).loc Cert.KernelIdeal.main_arg0) : Cert.KernelIdeal.S1280x6912.Idx → EReal) (ix2 o d)
      = KernelIdeal.gw m c o.val d.val := by
  unfold KernelIdeal.gw
  rw [dif_pos ⟨o.isLt, d.isLt⟩]

variable (a0 : Vec Ideal Cert.ReferenceIdeal.S1280x6912 .bf16) (a1 : Vec Ideal Cert.ReferenceIdeal.S6912x8x4096 .bf16)
  (h0 : a0 = m ((c.tc : Thread Cert.KernelIdeal.nD Cert.KernelIdeal.τ).loc Cert.KernelIdeal.main_arg0))
  (h1 : a1 = m ((c.tc : Thread Cert.KernelIdeal.nD Cert.KernelIdeal.τ).loc Cert.KernelIdeal.main_arg1))
include h1

theorem entries' (d : Fin 6912) (b : Fin 8) (s : Fin 4096) : a1 (ix3 d b s) = KernelIdeal.gx m c d.val b.val s.val := by
  subst h1; exact entries m c d b s

include h0 in
/-- The output, -/
theorem eq2 : Cert.Proof.ReferenceIdeal.Run.G2 (F := Ideal) a0 a1 = KernelIdeal.Value.G2 m c := by
  have hw : ∀ (o : Fin 1280) (d : Fin 6912), a0 (ix2 o d) = KernelIdeal.gw m c o.val d.val := by
    subst h0; exact weights m c
  funext j
  obtain ⟨b, s, o, rfl⟩ : ∃ (b : Fin 8) (s : Fin 4096) (o : Fin 1280), j = ix3 b s o := ⟨j 0, j 1, j 2, eq_ix3 j⟩
  exact ReferenceIdeal.res2_at (entries' m c a1 h1) hw b s o

/-- the codes -/
theorem eq3 : Cert.Proof.ReferenceIdeal.Run.G3 (F := Ideal) a0 a1 = KernelIdeal.Value.G3 m c := by
  funext j
  obtain ⟨d, t, b, l, rfl⟩ : ∃ (d : Fin 6912) (t : Fin 32) (b : Fin 8) (l : Fin 128), j = ix4 d t b l := ⟨j 0, j 1, j 2, j 3, eq_ix4 j⟩
  exact ReferenceIdeal.res3_at (entries' m c a1 h1) d t b l

/-- and the scales. -/
theorem eq4 : Cert.Proof.ReferenceIdeal.Run.G4 (F := Ideal) a0 a1 = KernelIdeal.Value.G4 m c := by
  funext j
  obtain ⟨g, b, s, rfl⟩ : ∃ (g : Fin 54) (b : Fin 8) (s : Fin 4096), j = ix3 g b s := ⟨j 0, j 1, j 2, eq_ix3 j⟩
  exact ReferenceIdeal.pay4_at (entries' m c a1 h1) g b s

end

/-- The value claim. -/
theorem algebraic : Cert.algebraic_KernelIdeal_ReferenceIdeal_pre_representable (hKernelIdeal := Cert.KernelIdeal.Gen.facts)
    (hReferenceIdeal := Cert.ReferenceIdeal.Gen.facts) (hPre_representable := pre_facts) := fun m g m' g' hp ha =>
  ⟨fun c => KernelIdeal.Value.G2 m c, fun c => KernelIdeal.Value.G3 m c, fun c => KernelIdeal.Value.G4 m c,
    KernelIdeal.Value.value m g (tame_of_pre m hp),
    (θ_run (Cert.ReferenceIdeal.defs (F := Ideal)) _ _).mono (fun r h c => ⟨(h c).1.trans (eq2 m c _ _ (ha c).1 (ha c).2),
      (h c).2.1.trans (eq3 m c _ _ (ha c).2), (h c).2.2.1.trans (eq4 m c _ _ (ha c).2), (h c).2.2.2.1, (h c).2.2.2.2⟩)
      (Cert.Proof.ReferenceIdeal.Run.run m' g')⟩

end Cert.Proof
-- ==== Proof.lean ====
/- The proof of the certificate's claim, put together from the modules beside it. -/
module

public import proofs.«01_k».proof.Defs
public import proofs.«01_k».proof.Proof.KernelFrame
public import proofs.«01_k».proof.Proof.IdealFrame
public import proofs.«01_k».proof.Proof.Preserves
public import proofs.«01_k».proof.Proof.Equation
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame

@[expose] public section

namespace Cert.Proof

/-- Every claim: the three programs run and leave their arguments, the idealized program is the kernel over the extended
    reals, and it computes what the reference computes. -/
theorem claim : Cert.Claim :=
  ⟨Cert.Kernel.Gen.facts, Cert.KernelIdeal.Gen.facts, Cert.ReferenceIdeal.Gen.facts, pre_facts,
    fun m ρ _ => Cert.Proof.Kernel.frame m ρ, fun m ρ _ => Cert.Proof.KernelIdeal.frame m ρ,
    fun m ρ _ => Cert.Proof.KernelIdeal.frame m ρ, fun m ρ _ => Cert.ReferenceIdeal.Gen.frame m ρ,
    fun m ρ _ => Cert.ReferenceIdeal.Gen.frame m ρ, preserves, algebraic⟩

end Cert.Proof
